-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S1x2048x1024 : Shape := ⟨3, ![1, 2048, 1024]⟩
abbrev S8x1024 : Shape := ⟨2, ![8, 1024]⟩
abbrev S8x2048x1024 : Shape := ⟨3, ![8, 2048, 1024]⟩
abbrev S1024x2048 : Shape := ⟨2, ![1024, 2048]⟩
abbrev S_ : Shape := ⟨0, ![]⟩
abbrev S2x2048x1024 : Shape := ⟨3, ![2, 2048, 1024]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S8x1024 : S_.BroadcastsInDim S8x1024 (![] : Fin 0 → Fin S8x1024.rank)
  reducesTo_S8x1024_S_d0_1 : S8x1024.ReducesTo [0, 1] S_
  slices_S8x2048x1024_S2x2048x1024_0_0_0 : S8x2048x1024.Slices ![0, 0, 0] S2x2048x1024
  bcast_S_S2x2048x1024 : S_.BroadcastsInDim S2x2048x1024 (![] : Fin 0 → Fin S2x2048x1024.rank)
  reducesTo_S2x2048x1024_S_d0_1_2 : S2x2048x1024.ReducesTo [0, 1, 2] S_
  bcast_S_S1024x2048 : S_.BroadcastsInDim S1024x2048 (![] : Fin 0 → Fin S1024x2048.rank)
  reducesTo_S1024x2048_S_d0_1 : S1024x2048.ReducesTo [0, 1] S_

variable [Facts]

def fn_part1 {F : FTy → Type} [FloatOps F] (main_v14 : IVec S_ 1) (main_v15 : FVec F S1024x2048 .f32) (main_v16 : FVec F S1024x2048 .f32) : IVec S_ 1 :=
  let main_v17 : IVec S1024x2048 1 := cmpf .olt main_v15 main_v16
  let main_c_5 : IVec S_ 1 := constantI S_ 1 1#1
  let main_v18 : IVec S_ 1 := (fun x v => Host.reduce IntOp.andi x v reducesTo_S1024x2048_S_d0_1 h_S_) main_v17 main_c_5
  let main_v19 : IVec S_ 1 := andi main_v14 main_v18
  main_v19

def fn {F : FTy → Type} [FloatOps F] (main_arg0 : FVec F S1x2048x1024 .f32) (main_arg1 : FVec F S8x1024 .f32) (main_arg2 : FVec F S8x2048x1024 .f32) (main_arg3 : FVec F S1024x2048 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S8x1024 .f32 := Host.absf main_arg1
  let main_cst_0 : FVec F S_ .f32 := constant S_ .f32 0x7F800000#32
  let main_v5 : FVec F S8x1024 .f32 := broadcastInDim S8x1024 ![] bcast_S_S8x1024 main_cst_0
  let main_v6 : IVec S8x1024 1 := cmpf .olt main_v4 main_v5
  let main_c_1 : IVec S_ 1 := constantI S_ 1 1#1
  let main_v7 : IVec S_ 1 := (fun x v => Host.reduce IntOp.andi x v reducesTo_S8x1024_S_d0_1 h_S_) main_v6 main_c_1
  let main_v8 : IVec S_ 1 := andi main_v3 main_v7
  let main_v9 : FVec F S2x2048x1024 .f32 := (extractStridedSlice S2x2048x1024 ![0, 0, 0] · slices_S8x2048x1024_S2x2048x1024_0_0_0) main_arg2
  let main_v10 : FVec F S2x2048x1024 .f32 := Host.absf main_v9
  let main_cst_2 : FVec F S_ .f32 := constant S_ .f32 0x7F800000#32
  let main_v11 : FVec F S2x2048x1024 .f32 := broadcastInDim S2x2048x1024 ![] bcast_S_S2x2048x1024 main_cst_2
  let main_v12 : IVec S2x2048x1024 1 := cmpf .olt main_v10 main_v11
  let main_c_3 : IVec S_ 1 := constantI S_ 1 1#1
  let main_v13 : IVec S_ 1 := (fun x v => Host.reduce IntOp.andi x v reducesTo_S2x2048x1024_S_d0_1_2 h_S_) main_v12 main_c_3
  let main_v14 : IVec S_ 1 := andi main_v8 main_v13
  let main_v15 : FVec F S1024x2048 .f32 := Host.absf main_arg3
  let main_cst_4 : FVec F S_ .f32 := constant S_ .f32 0x7F800000#32
  let main_v16 : FVec F S1024x2048 .f32 := broadcastInDim S1024x2048 ![] bcast_S_S1024x2048 main_cst_4
  fn_part1 (F := F) main_v14 main_v15 main_v16
-- ==== Kernel.lean ====
abbrev S1x2048x1024 : Shape := ⟨3, ![1, 2048, 1024]⟩
abbrev S8x1024 : Shape := ⟨2, ![8, 1024]⟩
abbrev S8x2048x1024 : Shape := ⟨3, ![8, 2048, 1024]⟩
abbrev S1024x2048 : Shape := ⟨2, ![1024, 2048]⟩
abbrev S2048x1024 : Shape := ⟨2, ![2048, 1024]⟩
abbrev S1024x1024 : Shape := ⟨2, ![1024, 1024]⟩
abbrev S2x2048x512 : Shape := ⟨3, ![2, 2048, 512]⟩
abbrev S1x2048x512 : Shape := ⟨3, ![1, 2048, 512]⟩
abbrev S2048x512 : Shape := ⟨2, ![2048, 512]⟩
abbrev S1024x512 : Shape := ⟨2, ![1024, 512]⟩
abbrev S1024x8 : Shape := ⟨2, ![1024, 8]⟩
abbrev S1024 : Shape := ⟨1, ![1024]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S1x2048x1024, .f32⟩
  | .hbm, ⟨1, _⟩ => ⟨S8x1024, .f32⟩
  | .hbm, ⟨2, _⟩ => ⟨S8x2048x1024, .f32⟩
  | .hbm, ⟨3, _⟩ => ⟨S1024x2048, .f32⟩
  | .hbm, ⟨4, _⟩ => ⟨S2048x1024, .f32⟩
  | .hbm, ⟨5, _⟩ => ⟨S2048x1024, .f32⟩
  | .hbm, ⟨6, _⟩ => ⟨S1x2048x1024, .f32⟩
  | .local _ .vmem, ⟨0, _⟩ => ⟨S1024x1024, .f32⟩
  | .local _ .vmem, ⟨1, _⟩ => ⟨S1024x1024, .f32⟩
  | .local _ .vmem, ⟨2, _⟩ => ⟨S8x1024, .f32⟩
  | .local _ .vmem, ⟨3, _⟩ => ⟨S2x2048x512, .f32⟩
  | .local _ .vmem, ⟨4, _⟩ => ⟨S2x2048x512, .f32⟩
  | .local _ .vmem, ⟨5, _⟩ => ⟨S1024x2048, .f32⟩
  | .local _ .vmem, ⟨6, _⟩ => ⟨S1024x1024, .f32⟩
  | .local _ .vmem, ⟨7, _⟩ => ⟨S1024x1024, .f32⟩
  | .local _ .vmem, ⟨8, _⟩ => ⟨S1024x2048, .bf16⟩
  | .local _ .vmem, ⟨9, _⟩ => ⟨S1024x2048, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c2_i32 : BitVec 32 := 2#32
  let v3 : BitVec 1 := Scalar.cmpi .slt arg0 c2_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let c0_10 : Index := 0#32
  let arg0 : BitVec 32 := BitVec.ofNat 32 (i 0).val
  let c512_i32 : BitVec 32 := 512#32
  let v18 : BitVec 32 := Scalar.muli arg0 c512_i32
  let v19 : Index := Scalar.indexCast v18
  ![0, v19.toNat]
def k0_off2 (i : grid0.Coords) : Fin 2 → Nat :=
  let c0_13 : Index := 0#32
  let c1024_i32 : BitVec 32 := 1024#32
  let arg0 : BitVec 32 := BitVec.ofNat 32 (i 0).val
  let c512_i32_12 : BitVec 32 := 512#32
  let v25 : BitVec 32 := Scalar.muli arg0 c512_i32_12
  let v26 : BitVec 32 := Scalar.addi c1024_i32 v25
  let v27 : Index := Scalar.indexCast v26
  ![0, v27.toNat]
def k0_cond3 (i : grid0.Coords) : BitVec 1 :=
  let arg0 : BitVec 32 := BitVec.ofNat 32 (i 0).val
  let c2_i32_2 : BitVec 32 := 2#32
  let v6 : BitVec 1 := Scalar.cmpi .sge arg0 c2_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S1x2048x1024 : Shape := ⟨3, ![1, 2048, 1024]⟩
abbrev S8x1024 : Shape := ⟨2, ![8, 1024]⟩
abbrev S8x2048x1024 : Shape := ⟨3, ![8, 2048, 1024]⟩
abbrev S1024x2048 : Shape := ⟨2, ![1024, 2048]⟩
abbrev S1x2048x8 : Shape := ⟨3, ![1, 2048, 8]⟩
abbrev S_ : Shape := ⟨0, ![]⟩
abbrev S1x2048 : Shape := ⟨2, ![1, 2048]⟩
abbrev S1x2048x1 : Shape := ⟨3, ![1, 2048, 1]⟩
abbrev S2048x8 : Shape := ⟨2, ![2048, 8]⟩
abbrev S2048x1024 : Shape := ⟨2, ![2048, 1024]⟩
abbrev S2048x2048 : Shape := ⟨2, ![2048, 2048]⟩
abbrev S2048 : Shape := ⟨1, ![2048]⟩
abbrev S2048x1 : Shape := ⟨2, ![2048, 1]⟩
abbrev S1x2048x2048 : Shape := ⟨3, ![1, 2048, 2048]⟩

abbrev nBuf : Space → Nat
  | .hbm => 166
  | .vmem => 0
  | .smem => 0
  | _ => 0

abbrev hbmTy0_0 (i : Nat) : BufTy := match i % 128 with
  | 0 => ⟨S1x2048x1024, .f32⟩
  | 1 => ⟨S8x1024, .f32⟩
  | 2 => ⟨S8x2048x1024, .f32⟩
  | 3 => ⟨S1024x2048, .f32⟩
  | 4 => ⟨S1x2048x8, .f32⟩
  | 5 => ⟨S_, .f32⟩
  | 6 => ⟨S1x2048, .f32⟩
  | 7 => ⟨S_, .f32⟩
  | 8 => ⟨S1x2048, .f32⟩
  | 9 => ⟨S1x2048, .f32⟩
  | 10 => ⟨S1x2048x1, .f32⟩
  | 11 => ⟨S1x2048x8, .f32⟩
  | 12 => ⟨S1x2048x8, .f32⟩
  | 13 => ⟨S1x2048x8, .f32⟩
  | 14 => ⟨S_, .f32⟩
  | 15 => ⟨S1x2048, .f32⟩
  | 16 => ⟨S1x2048x1, .f32⟩
  | 17 => ⟨S1x2048x8, .f32⟩
  | 18 => ⟨S1x2048x8, .f32⟩
  | 19 => ⟨S2048x8, .f32⟩
  | 20 => ⟨S_, .f32⟩
  | 21 => ⟨S2048x8, .f32⟩
  | 22 => ⟨S2048x8, .i1⟩
  | 23 => ⟨S2048x8, .i32⟩
  | 24 => ⟨S2048x1024, .f32⟩
  | 25 => ⟨S_, .f32⟩
  | 26 => ⟨S2048x2048, .f32⟩
  | 27 => ⟨S_, .i32⟩
  | 28 => ⟨S2048x8, .i32⟩
  | 29 => ⟨S2048x8, .i1⟩
  | 30 => ⟨S2048x8, .f32⟩
  | 31 => ⟨S_, .f32⟩
  | 32 => ⟨S2048, .f32⟩
  | 33 => ⟨S1x2048x1024, .f32⟩
  | 34 => ⟨S2048x1024, .f32⟩
  | 35 => ⟨S1024x2048, .f32⟩
  | 36 => ⟨S2048x2048, .f32⟩
  | 37 => ⟨S2048x1, .f32⟩
  | 38 => ⟨S2048, .f32⟩
  | 39 => ⟨S2048, .f32⟩
  | 40 => ⟨S2048x1, .f32⟩
  | 41 => ⟨S2048x2048, .f32⟩
  | 42 => ⟨S2048x2048, .f32⟩
  | 43 => ⟨S2048x2048, .f32⟩
  | 44 => ⟨S_, .i32⟩
  | 45 => ⟨S2048x8, .i32⟩
  | 46 => ⟨S2048x8, .i1⟩
  | 47 => ⟨S2048x8, .f32⟩
  | 48 => ⟨S_, .f32⟩
  | 49 => ⟨S2048, .f32⟩
  | 50 => ⟨S1x2048x1024, .f32⟩
  | 51 => ⟨S2048x1024, .f32⟩
  | 52 => ⟨S1024x2048, .f32⟩
  | 53 => ⟨S2048x2048, .f32⟩
  | 54 => ⟨S2048x1, .f32⟩
  | 55 => ⟨S2048, .f32⟩
  | 56 => ⟨S2048, .f32⟩
  | 57 => ⟨S2048x1, .f32⟩
  | 58 => ⟨S2048x2048, .f32⟩
  | 59 => ⟨S2048x2048, .f32⟩
  | 60 => ⟨S2048x2048, .f32⟩
  | 61 => ⟨S_, .i32⟩
  | 62 => ⟨S2048x8, .i32⟩
  | 63 => ⟨S2048x8, .i1⟩
  | 64 => ⟨S2048x8, .f32⟩
  | 65 => ⟨S_, .f32⟩
  | 66 => ⟨S2048, .f32⟩
  | 67 => ⟨S1x2048x1024, .f32⟩
  | 68 => ⟨S2048x1024, .f32⟩
  | 69 => ⟨S1024x2048, .f32⟩
  | 70 => ⟨S2048x2048, .f32⟩
  | 71 => ⟨S2048x1, .f32⟩
  | 72 => ⟨S2048, .f32⟩
  | 73 => ⟨S2048, .f32⟩
  | 74 => ⟨S2048x1, .f32⟩
  | 75 => ⟨S2048x2048, .f32⟩
  | 76 => ⟨S2048x2048, .f32⟩
  | 77 => ⟨S2048x2048, .f32⟩
  | 78 => ⟨S_, .i32⟩
  | 79 => ⟨S2048x8, .i32⟩
  | 80 => ⟨S2048x8, .i1⟩
  | 81 => ⟨S2048x8, .f32⟩
  | 82 => ⟨S_, .f32⟩
  | 83 => ⟨S2048, .f32⟩
  | 84 => ⟨S1x2048x1024, .f32⟩
  | 85 => ⟨S2048x1024, .f32⟩
  | 86 => ⟨S1024x2048, .f32⟩
  | 87 => ⟨S2048x2048, .f32⟩
  | 88 => ⟨S2048x1, .f32⟩
  | 89 => ⟨S2048, .f32⟩
  | 90 => ⟨S2048, .f32⟩
  | 91 => ⟨S2048x1, .f32⟩
  | 92 => ⟨S2048x2048, .f32⟩
  | 93 => ⟨S2048x2048, .f32⟩
  | 94 => ⟨S2048x2048, .f32⟩
  | 95 => ⟨S_, .i32⟩
  | 96 => ⟨S2048x8, .i32⟩
  | 97 => ⟨S2048x8, .i1⟩
  | 98 => ⟨S2048x8, .f32⟩
  | 99 => ⟨S_, .f32⟩
  | 100 => ⟨S2048, .f32⟩
  | 101 => ⟨S1x2048x1024, .f32⟩
  | 102 => ⟨S2048x1024, .f32⟩
  | 103 => ⟨S1024x2048, .f32⟩
  | 104 => ⟨S2048x2048, .f32⟩
  | 105 => ⟨S2048x1, .f32⟩
  | 106 => ⟨S2048, .f32⟩
  | 107 => ⟨S2048, .f32⟩
  | 108 => ⟨S2048x1, .f32⟩
  | 109 => ⟨S2048x2048, .f32⟩
  | 110 => ⟨S2048x2048, .f32⟩
  | 111 => ⟨S2048x2048, .f32⟩
  | 112 => ⟨S_, .i32⟩
  | 113 => ⟨S2048x8, .i32⟩
  | 114 => ⟨S2048x8, .i1⟩
  | 115 => ⟨S2048x8, .f32⟩
  | 116 => ⟨S_, .f32⟩
  | 117 => ⟨S2048, .f32⟩
  | 118 => ⟨S1x2048x1024, .f32⟩
  | 119 => ⟨S2048x1024, .f32⟩
  | 120 => ⟨S1024x2048, .f32⟩
  | 121 => ⟨S2048x2048, .f32⟩
  | 122 => ⟨S2048x1, .f32⟩
  | 123 => ⟨S2048, .f32⟩
  | 124 => ⟨S2048, .f32⟩
  | 125 => ⟨S2048x1, .f32⟩
  | 126 => ⟨S2048x2048, .f32⟩
  | 127 => ⟨S2048x2048, .f32⟩
  | _ => ⟨S1x2048x1024, .f32⟩

abbrev hbmTy0_1 (i : Nat) : BufTy := match i % 128 with
  | 0 => ⟨S2048x2048, .f32⟩
  | 1 => ⟨S_, .i32⟩
  | 2 => ⟨S2048x8, .i32⟩
  | 3 => ⟨S2048x8, .i1⟩
  | 4 => ⟨S2048x8, .f32⟩
  | 5 => ⟨S_, .f32⟩
  | 6 => ⟨S2048, .f32⟩
  | 7 => ⟨S1x2048x1024, .f32⟩
  | 8 => ⟨S2048x1024, .f32⟩
  | 9 => ⟨S1024x2048, .f32⟩
  | 10 => ⟨S2048x2048, .f32⟩
  | 11 => ⟨S2048x1, .f32⟩
  | 12 => ⟨S2048, .f32⟩
  | 13 => ⟨S2048, .f32⟩
  | 14 => ⟨S2048x1, .f32⟩
  | 15 => ⟨S2048x2048, .f32⟩
  | 16 => ⟨S2048x2048, .f32⟩
  | 17 => ⟨S2048x2048, .f32⟩
  | 18 => ⟨S_, .i32⟩
  | 19 => ⟨S2048x8, .i32⟩
  | 20 => ⟨S2048x8, .i1⟩
  | 21 => ⟨S2048x8, .f32⟩
  | 22 => ⟨S_, .f32⟩
  | 23 => ⟨S2048, .f32⟩
  | 24 => ⟨S1x2048x1024, .f32⟩
  | 25 => ⟨S2048x1024, .f32⟩
  | 26 => ⟨S1024x2048, .f32⟩
  | 27 => ⟨S2048x2048, .f32⟩
  | 28 => ⟨S2048x1, .f32⟩
  | 29 => ⟨S2048, .f32⟩
  | 30 => ⟨S2048, .f32⟩
  | 31 => ⟨S2048x1, .f32⟩
  | 32 => ⟨S2048x2048, .f32⟩
  | 33 => ⟨S2048x2048, .f32⟩
  | 34 => ⟨S2048x2048, .f32⟩
  | 35 => ⟨S1x2048x2048, .f32⟩
  | 36 => ⟨S2048x1024, .f32⟩
  | 37 => ⟨S1x2048x1024, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_c : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_c_7 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_8 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_c_9 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_10 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_c_11 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_cst_12 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_c_13 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_cst_14 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_c_15 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_cst_16 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_c_17 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_cst_18 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩

abbrev nD : Nat := 1
abbrev τ : Topo := Topo.v7x

variable {F : FTy → Type} [FloatOps F]
-- ==== Proof.Keeps.lean ====
/- The printed kernel runs to the end and leaves its arguments alone, whatever its numbers are. Nothing is said of what it
   computes: the two scratch buffers and the block of results may hold anything before and after every step, and each
   step gives back the blocks of the arguments as it found them. -/
module

public import proofs.«01_k».proof.Proof.Gen.Kernel.Frame
public import proofs.«01_k».proof.Proof.Gen.Kernel.Skeleton
public import Idealize.ShloMosaic.Lib.WritesUnit
public import Idealize.ShloMosaic.Lib.VecWindow
public import Idealize.ShloMosaic.Lib.Pipeline.FrameBody
public import Idealize.ShloMosaic.Lib.Pipeline.FrameSuffix
public import Idealize.ShloMosaic.Lib.Claim

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- Does this step fill the held copy of the output weights? -/
abbrev atFirst (i : grid0.Coords) : Prop :=
  (Scalar.cmpi .ne (Scalar.extui (Scalar.cmpi .eq (BitVec.ofNat 32 (i 0).val) 0#32)) 0#32) = 1#1
/-- Does it build products of weights? -/
abbrev atBuild (i : grid0.Coords) : Prop := k0_cond2 i = 1#1
/-- Does it compute a block of tokens? -/
abbrev atTokens (i : grid0.Coords) : Prop := k0_cond3 i = 1#1

theorem atFirst_iff : ∀ t : Fin cfg0.N, atFirst (grid0.coords t) ↔ t.val = 0 := by decide +kernel
theorem atBuild_iff : ∀ t : Fin cfg0.N, atBuild (grid0.coords t) ↔ t.val < 2 := by decide +kernel
theorem atTokens_iff : ∀ t : Fin cfg0.N, atTokens (grid0.coords t) ↔ 2 ≤ t.val := by decide +kernel

/-! The body at each kind of step, over the buffers it touches. -/

set_option maxHeartbeats 1000000 in
/-- The first step. -/
theorem keeps_first (c : Dev nD) (i : grid0.Coords) (arg1 : Memref sig .tc .vmem S1024x1024 .f32) (harg1 : arg1.IsWhole)
    (arg2 : Memref sig .tc .vmem S8x1024 .f32) (harg2 : arg2.IsWhole) (arg3 : Memref sig .tc .vmem S2x2048x512 .f32) (harg3 : arg3.IsWhole)
    (arg4 : Memref sig .tc .vmem S1024x2048 .f32) (harg4 : arg4.IsWhole) (arg5 : Memref sig .tc .vmem S1024x1024 .f32) (harg5 : arg5.IsWhole)
    (arg6 : Memref sig .tc .vmem S1024x2048 .bf16) (harg6 : arg6.IsWhole) (arg7 : Memref sig .tc .vmem S1024x2048 .bf16) (harg7 : arg7.IsWhole)
    (hc0 : atFirst i) (hc1 : atBuild i) (hc2 : ¬ atTokens i)
    (x2 : Vec F S2x2048x512 .f32) (x3 : Vec F S1024x2048 .f32) (E : Set ℕ) (K : PUnit → sProp 𝕄) :
    iprop(owns (c : Thread nD τ) arg3 fullShare x2
        ∗ owns (c : Thread nD τ) arg4 fullShare x3
        ∗ (∃ d, owns (c : Thread nD τ) arg6 fullShare d)
        ∗ (∃ d, owns (c : Thread nD τ) arg7 fullShare d)
        ∗ (iprop(owns (c : Thread nD τ) arg3 fullShare x2
            ∗ owns (c : Thread nD τ) arg4 fullShare x3
            ∗ (∃ d, owns (c : Thread nD τ) arg6 fullShare d)
            ∗ (∃ d, owns (c : Thread nD τ) arg7 fullShare d)) -∗ K ⟨⟩))
      ⊢ wp frame (wpE (defs₀ (F := F)) Variants.none c none) E
          (cc0__fused_moe_kernel i arg1 harg1 arg2 harg2 arg3 harg3 arg4 harg4 arg5 harg5 arg6 harg6 arg7 harg7) K := by
  simp only [cc0__fused_moe_kernel_eq_skeleton]; unfold cc0__fused_moe_kernel_skel
  unfold owns
  iintro ⟨⟨%f0, %hf0, H0⟩, ⟨%f1, %hf1, H1⟩, ⟨%d2, %f2, -, H2⟩, ⟨%d3, %f3, -, H3⟩, Hk⟩
  obtain rfl := harg3.eq_unread hf0; obtain rfl := harg4.eq_unread hf1
  sl_exec (disch := first | sl_exact hc0 | sl_exact hc1 | sl_exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _, _; isplitr; swap; · iexact H2
    ipureintro; rfl
  iexists _, _; isplitr; swap; · iexact H3
  ipureintro; rfl

set_option maxHeartbeats 1000000 in
/-- The other building step. -/
theorem keeps_build (c : Dev nD) (i : grid0.Coords) (arg1 : Memref sig .tc .vmem S1024x1024 .f32) (harg1 : arg1.IsWhole)
    (arg2 : Memref sig .tc .vmem S8x1024 .f32) (harg2 : arg2.IsWhole) (arg3 : Memref sig .tc .vmem S2x2048x512 .f32) (harg3 : arg3.IsWhole)
    (arg4 : Memref sig .tc .vmem S1024x2048 .f32) (harg4 : arg4.IsWhole) (arg5 : Memref sig .tc .vmem S1024x1024 .f32) (harg5 : arg5.IsWhole)
    (arg6 : Memref sig .tc .vmem S1024x2048 .bf16) (harg6 : arg6.IsWhole) (arg7 : Memref sig .tc .vmem S1024x2048 .bf16) (harg7 : arg7.IsWhole)
    (hc0 : ¬ atFirst i) (hc1 : atBuild i) (hc2 : ¬ atTokens i)
    (x2 : Vec F S2x2048x512 .f32) (E : Set ℕ) (K : PUnit → sProp 𝕄) :
    iprop(owns (c : Thread nD τ) arg3 fullShare x2
        ∗ (∃ d, owns (c : Thread nD τ) arg6 fullShare d)
        ∗ (∃ d, owns (c : Thread nD τ) arg7 fullShare d)
        ∗ (iprop(owns (c : Thread nD τ) arg3 fullShare x2
            ∗ (∃ d, owns (c : Thread nD τ) arg6 fullShare d)
            ∗ (∃ d, owns (c : Thread nD τ) arg7 fullShare d)) -∗ K ⟨⟩))
      ⊢ wp frame (wpE (defs₀ (F := F)) Variants.none c none) E
          (cc0__fused_moe_kernel i arg1 harg1 arg2 harg2 arg3 harg3 arg4 harg4 arg5 harg5 arg6 harg6 arg7 harg7) K := by
  simp only [cc0__fused_moe_kernel_eq_skeleton]; unfold cc0__fused_moe_kernel_skel
  unfold owns
  iintro ⟨⟨%f0, %hf0, H0⟩, ⟨%d1, %f1, -, H1⟩, ⟨%d2, %f2, -, H2⟩, Hk⟩
  obtain rfl := harg3.eq_unread hf0
  sl_exec (disch := first | sl_exact hc0 | sl_exact hc1 | sl_exact hc2)
  sl_step
  iapply Hk
  isplitl [H0]
  · iexists _; isplitr; · ipureintro; exact harg3.read_unread _
    iexact H0
  isplitl [H1]
  · iexists _, _; isplitr; swap; · iexact H1
    ipureintro; rfl
  iexists _, _; isplitr; swap; · iexact H2
  ipureintro; rfl

set_option maxHeartbeats 1000000 in
/-- A token step. -/
theorem keeps_tokens (c : Dev nD) (i : grid0.Coords) (arg1 : Memref sig .tc .vmem S1024x1024 .f32) (harg1 : arg1.IsWhole)
    (arg2 : Memref sig .tc .vmem S8x1024 .f32) (harg2 : arg2.IsWhole) (arg3 : Memref sig .tc .vmem S2x2048x512 .f32) (harg3 : arg3.IsWhole)
    (arg4 : Memref sig .tc .vmem S1024x2048 .f32) (harg4 : arg4.IsWhole) (arg5 : Memref sig .tc .vmem S1024x1024 .f32) (harg5 : arg5.IsWhole)
    (arg6 : Memref sig .tc .vmem S1024x2048 .bf16) (harg6 : arg6.IsWhole) (arg7 : Memref sig .tc .vmem S1024x2048 .bf16) (harg7 : arg7.IsWhole)
    (hc0 : ¬ atFirst i) (hc1 : ¬ atBuild i) (hc2 : atTokens i)
    (x0 : Vec F S1024x1024 .f32) (x1 : Vec F S8x1024 .f32) (E : Set ℕ) (K : PUnit → sProp 𝕄) :
    iprop(owns (c : Thread nD τ) arg1 fullShare x0
        ∗ owns (c : Thread nD τ) arg2 fullShare x1
        ∗ (∃ d, owns (c : Thread nD τ) arg5 fullShare d)
        ∗ (∃ d, owns (c : Thread nD τ) arg7 fullShare d)
        ∗ (iprop(owns (c : Thread nD τ) arg1 fullShare x0
            ∗ owns (c : Thread nD τ) arg2 fullShare x1
            ∗ (∃ d, owns (c : Thread nD τ) arg5 fullShare d)
            ∗ (∃ d, owns (c : Thread nD τ) arg7 fullShare d)) -∗ K ⟨⟩))
      ⊢ wp frame (wpE (defs₀ (F := F)) Variants.none c none) E
          (cc0__fused_moe_kernel i arg1 harg1 arg2 harg2 arg3 harg3 arg4 harg4 arg5 harg5 arg6 harg6 arg7 harg7) K := by
  simp only [cc0__fused_moe_kernel_eq_skeleton]; unfold cc0__fused_moe_kernel_skel
  unfold owns
  iintro ⟨⟨%f0, %hf0, H0⟩, ⟨%f1, %hf1, H1⟩, ⟨%d2, %f2, -, H2⟩, ⟨%d3, %f3, -, H3⟩, Hk⟩
  obtain rfl := harg1.eq_unread hf0; obtain rfl := harg2.eq_unread hf1
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _, _; isplitr; swap; · iexact H2
    ipureintro; rfl
  iexists _, _; isplitr; swap; · iexact H3
  ipureintro; rfl

/-! The run. -/

variable (m : (ℓ : Loc nD τ sig) → Buf (Elt F) ℓ) (ρ : Dev nD → PrngReg)

/-- The window of results, of which nothing is said. -/
def unsaid : Fin 5 → Bool := fun w => w.val == 4

/-- The arguments' blocks are left in place; the scratch buffers and the generator hold anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]
theorem inv_before (c : Dev nD) (t : Fin cfg0.N) : (dats m 0 c).Φ t.castSucc = Pipeline.ΦA spec0 c := rfl
theorem inv_after (c : Dev nD) (t : Fin cfg0.N) : (dats m 0 c).Φ t.succ = Pipeline.ΦA spec0 c := rfl

/-- The two scratch buffers and, at a step, the buffer of each window. -/
abbrev held : Memref sig .tc .vmem S1024x2048 .bf16 := Memref.whole cc0_scratch0
abbrev made : Memref sig .tc .vmem S1024x2048 .bf16 := Memref.whole cc0_scratch1
abbrev buf (w : Fin 5) (t : Fin cfg0.N) := (win0 w).stage (cfg0.slots t w)

theorem any_eq (c : Dev nD) :
    (Pipeline.ΦA spec0 c : sProp 𝕄)
      = iprop(((∃ d, owns (c : Thread nD τ) held fullShare d) ∗ (∃ d, owns (c : Thread nD τ) made fullShare d)) ∗ (∃ r, prngReg c r)) := by
  unfold Pipeline.ΦA; rw [scopedRest0_eq]; simp only [held, made, owns_whole]; try rfl

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

theorem leaves_0 (c : Dev nD) (t : Fin cfg0.N) : (dats m 0 c).leavesExact 0 t = owns (c : Thread nD τ) (buf 0 t) fullShare (iblk m c 0 t) := by
  unfold Dat.leavesExact; rw [show cfg0.idle 0 (grid0.coords t) = false from rfl, after_0]
theorem leaves_1 (c : Dev nD) (t : Fin cfg0.N) : (dats m 0 c).leavesExact 1 t = owns (c : Thread nD τ) (buf 1 t) fullShare (iblk m c 1 t) := by
  unfold Dat.leavesExact; rw [show cfg0.idle 1 (grid0.coords t) = false from rfl, after_1]
theorem leaves_2 (c : Dev nD) (t : Fin cfg0.N) : (dats m 0 c).leavesExact 2 t = owns (c : Thread nD τ) (buf 2 t) fullShare (iblk m c 2 t) := by
  unfold Dat.leavesExact; rw [show cfg0.idle 2 (grid0.coords t) = false from rfl, after_2]
theorem leaves_3 (c : Dev nD) (t : Fin cfg0.N) : (dats m 0 c).leavesExact 3 t = owns (c : Thread nD τ) (buf 3 t) fullShare (iblk m c 3 t) := by
  unfold Dat.leavesExact; rw [show cfg0.idle 3 (grid0.coords t) = false from rfl, after_3]

/-- What a step starts from, -/
def stepPre (c : Dev nD) (t : Fin cfg0.N) : sProp 𝕄 :=
  iprop((dats m 0 c).Φ t.castSucc ∗ (dats m 0 c).owesAt () t.castSucc
    ∗ (∃ d, owns (c : Thread nD τ) (buf 0 t) fullShare ((dats m 0 c).before 0 t d))
    ∗ (∃ d, owns (c : Thread nD τ) (buf 1 t) fullShare ((dats m 0 c).before 1 t d))
    ∗ (∃ d, owns (c : Thread nD τ) (buf 2 t) fullShare ((dats m 0 c).before 2 t d))
    ∗ (∃ d, owns (c : Thread nD τ) (buf 3 t) fullShare ((dats m 0 c).before 3 t d))
    ∗ (∃ d, owns (c : Thread nD τ) (buf 4 t) fullShare d))

/-- and what it ends with. -/
def stepPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (∃ d, owns (c : Thread nD τ) (buf 4 t) fullShare d))

/-- The first step. -/
theorem step_first (c : Dev nD) (t : Fin cfg0.N) (hz : t.val = 0) :
    stepPre m c t ⊢ wp frame (wpE (defs₀ (F := F)) Variants.none c none) Set.univ (bodyAt0 t) (fun _ => stepPost m c t) := by
  unfold stepPre stepPost bodyAt0
  simp only [before_0, before_1, before_2, before_3]
  rw [show (dats m 0 c).owesAt () t.succ = (dats m 0 c).owesAt () t.castSucc from rfl, inv_after, inv_before,
    leaves_0, leaves_1, leaves_2, leaves_3, any_eq]
  iintro ⟨⟨⟨HS0, HS1⟩, Hg⟩, Ho, ⟨%d0, H0⟩, ⟨%d1, H1⟩, ⟨%d2, H2⟩, ⟨%d3, H3⟩, H4⟩
  iapply (keeps_first c (grid0.coords t) _ _ _ _ _ _ _ _ _ _ _ _ _ _ ((atFirst_iff t).mpr hz) ((atBuild_iff t).mpr (by omega))
    (fun h => absurd ((atTokens_iff t).mp h) (by omega)) (iblk m c 2 t) (iblk m c 3 t) Set.univ _)
  isplitl [H2]; · iexact H2
  isplitl [H3]; · iexact H3
  isplitl [HS0]; · iexact HS0
  isplitl [HS1]; · iexact HS1
  iintro ⟨H2, H3, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  iexact H4

/-- The other building step. -/
theorem step_build (c : Dev nD) (t : Fin cfg0.N) (hz : t.val ≠ 0) (ht : t.val < 2) :
    stepPre m c t ⊢ wp frame (wpE (defs₀ (F := F)) Variants.none c none) Set.univ (bodyAt0 t) (fun _ => stepPost m c t) := by
  unfold stepPre stepPost bodyAt0
  simp only [before_0, before_1, before_2, before_3]
  rw [show (dats m 0 c).owesAt () t.succ = (dats m 0 c).owesAt () t.castSucc from rfl, inv_after, inv_before,
    leaves_0, leaves_1, leaves_2, leaves_3, any_eq]
  iintro ⟨⟨⟨HS0, HS1⟩, Hg⟩, Ho, ⟨%d0, H0⟩, ⟨%d1, H1⟩, ⟨%d2, H2⟩, ⟨%d3, H3⟩, H4⟩
  iapply (keeps_build c (grid0.coords t) _ _ _ _ _ _ _ _ _ _ _ _ _ _ (fun h => absurd ((atFirst_iff t).mp h) (by omega)) ((atBuild_iff t).mpr (by omega))
    (fun h => absurd ((atTokens_iff t).mp h) (by omega)) (iblk m c 2 t) Set.univ _)
  isplitl [H2]; · iexact H2
  isplitl [HS0]; · iexact HS0
  isplitl [HS1]; · iexact HS1
  iintro ⟨H2, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  iexact H4

/-- A token step. -/
theorem step_tokens (c : Dev nD) (t : Fin cfg0.N) (ht : 2 ≤ t.val) :
    stepPre m c t ⊢ wp frame (wpE (defs₀ (F := F)) Variants.none c none) Set.univ (bodyAt0 t) (fun _ => stepPost m c t) := by
  unfold stepPre stepPost bodyAt0
  simp only [before_0, before_1, before_2, before_3]
  rw [show (dats m 0 c).owesAt () t.succ = (dats m 0 c).owesAt () t.castSucc from rfl, inv_after, inv_before,
    leaves_0, leaves_1, leaves_2, leaves_3, any_eq]
  iintro ⟨⟨⟨HS0, HS1⟩, Hg⟩, Ho, ⟨%d0, H0⟩, ⟨%d1, H1⟩, ⟨%d2, H2⟩, ⟨%d3, H3⟩, H4⟩
  iapply (keeps_tokens c (grid0.coords t) _ _ _ _ _ _ _ _ _ _ _ _ _ _ (fun h => absurd ((atFirst_iff t).mp h) (by omega))
    (fun h => absurd ((atBuild_iff t).mp h) (by omega)) ((atTokens_iff t).mpr ht) (iblk m c 0 t) (iblk m c 1 t) Set.univ _)
  isplitl [H0]; · iexact H0
  isplitl [H1]; · iexact H1
  isplitl [H4]; · iexact H4
  isplitl [HS1]; · iexact HS1
  iintro ⟨H0, H1, H4, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  iexact H4

/-- Every step gives back what it was handed. -/
theorem obligation (c : Dev nD) : BodyObligation (dats (F := F) m 0 c) (defs₀ (F := F)) Variants.none () Set.univ unsaid := fun t => by
  have row : defs₀ (F := F) .tc cfg0.body (cfg0.bodyArgs t (cfg0.slots t)) = bodyAt0 t := by unfold defs₀; rw [Defs.onTc_tc]
  have step : stepPre m c t ⊢ wp frame (wpE (defs₀ (F := F)) Variants.none c none) Set.univ (bodyAt0 t) (fun _ => stepPost m c t) := by
    by_cases ht : 2 ≤ t.val
    · exact step_tokens m c t ht
    · by_cases hz : t.val = 0
      · exact step_first m c t hz
      · exact step_build m c t hz (by omega)
  rw [bigSep_W0, bigSep_W0, row]
  exact triple_restated step rfl .rfl fun _ => .rfl

/-- After the launch only the array returned is written. -/
theorem only_result : ∀ ops ∈ ([hostOps1] : List (List (HloOp τ sig (Elt F)))), ∀ op ∈ ops,
    ∀ b : Ref sig .tc, Proc.devRef .tc b ∈ op.writes → b ∈ ({main_v2} : Finset (Ref sig .tc)) := by
  intro ops hops op hop b hb
  obtain rfl := List.mem_singleton.mp hops
  obtain rfl := List.mem_singleton.mp hop
  rw [StableHlo.reshape_writes, Finset.mem_singleton] at hb
  exact Finset.mem_singleton.mpr (Proc.devRef_injective _ hb)

-- the launch's implicit arguments are found by unifying its conclusion with this one
set_option backward.isDefEq.respectTransparency.types false in
set_option maxHeartbeats 800000 in
/-- The launch: every array the pipeline reads ends as it began, and every counter at zero. -/
theorem ends : θ_run defs (onTc (τ := τ) (main (F := F))) (s₀ m ρ) (fun r =>
    Pipeline.RDat.FramePostR (cfgs 0) (fun c => (dats m 0 c).toRForget unsaid) {main_v2} (V m) r ∧ r.2.sem = fun _ => 0) :=
  Pipeline.θ_run_frame_around_T_forget (Q' := _) cfgs (dats m) (0 : Fin 1) launch0 defs₀ Variants.none unsaid {main_v2} m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := only_result) (hmain := hmain m Variants.none) (hA := A_eq m) (hΦ := fun _ _ => rfl)

/-- The arguments end as they began, and every counter at zero. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  refine (θ_run defs _ _).mono (fun r h => ⟨fun c => ⟨?_, ?_, ?_, ?_⟩, h.2⟩) (ends m ρ)
  · exact ((h.1 c).2 main_arg0 (Finset.mem_sdiff.mpr ⟨Pipeline.mem_restRefs_of main_arg0 (by decide) (by decide), by decide⟩)).trans
      (V_main_arg0 m c)
  · exact (Pipeline.RDat.FramePostR.arr_in h.1 c 1 rfl).trans ((A_eq m c 1).trans (V_main_arg1 m c))
  · exact (Pipeline.RDat.FramePostR.arr_in h.1 c 2 rfl).trans ((A_eq m c 2).trans (V_main_arg2 m c))
  · exact (Pipeline.RDat.FramePostR.arr_in h.1 c 3 rfl).trans ((A_eq m c 3).trans (V_main_arg3 m c))

end Cert.Kernel.Hand

end
-- ==== Proof.Spec.lean ====
/- The layer in plain terms, over extended reals: a token's scores, their softmax, the counts of probabilities above the
   threshold and not above it, and the one identity the kernel rests on, the two orders of multiplying by the weights. -/
module

public import Idealize.ShloMosaic.PureOps.Ideal.Laws
public import Idealize.ShloMosaic.PureOps

@[expose] public section

noncomputable section

namespace Cert.Moe

open Idealize.ShloMosaic

/-- The words of the two infinities and of eight. -/
theorem ofBits_bot : Ideal.ofBits .f32 0xFF800000#32 = ⊥ := by simp [Ideal.ofBits, Ideal.ieee]
theorem ofBits_top : Ideal.ofBits .f32 0x7F800000#32 = ⊤ := by simp [Ideal.ofBits, Ideal.ieee]
theorem ofBits_eight : Ideal.ofBits .f32 0x41000000#32 = ((8 : ℝ) : EReal) := by
  simp [Ideal.ofBits, Ideal.ieee, -EReal.coe_mul]; norm_num

/-- The threshold a probability is compared with. -/
def thr : EReal := Ideal.ofBits .f32 0x3E99999A#32

/-- A token's score for an expert. -/
def score (x : Fin 1024 → EReal) (g : Fin 8 → Fin 1024 → EReal) (e : Fin 8) : EReal := ∑ d, x d * g e d

/-- A token's probability of an expert: the softmax of its scores. -/
def prob (x : Fin 1024 → EReal) (g : Fin 8 → Fin 1024 → EReal) (e : Fin 8) : EReal :=
  Ideal.div (Ideal.exp (score x g e - Finset.univ.fold max ⊥ fun e' => score x g e'))
    (∑ e', Ideal.exp (score x g e' - Finset.univ.fold max ⊥ fun e' => score x g e'))

/-- How many probabilities exceed the threshold, and how many do not. -/
def above (p : Fin 8 → EReal) : EReal := ∑ e, if thr < p e then ((1 : ℝ) : EReal) else ((0 : ℝ) : EReal)
def below (p : Fin 8 → EReal) : EReal := ∑ e, if thr < p e then ((0 : ℝ) : EReal) else ((1 : ℝ) : EReal)

/-- One if the truth value, as a word, is `n`. -/
def hit (b : Prop) [Decidable b] (n : BitVec 32) : EReal :=
  FloatOps.uitofp (F := Ideal) .f32 (IntOp.cmpi .eq (BitVec.setWidth 32 (BitVec.ofBool (decide b))) n)

/-- A word as a number. -/
theorem uitofp_eq {w : ℕ} (b : BitVec w) : FloatOps.uitofp (F := Ideal) .f32 b = ((b.toNat : ℝ) : EReal) := rfl
theorem sitofp_eq {w : ℕ} (b : BitVec w) : FloatOps.sitofp (F := Ideal) .f32 b = ((b.toInt : ℝ) : EReal) := rfl

theorem hit_eq (b : Prop) [Decidable b] (n : BitVec 32) :
    hit b n = if b then (if n = 1#32 then ((1 : ℝ) : EReal) else ((0 : ℝ) : EReal)) else (if n = 0#32 then ((1 : ℝ) : EReal) else ((0 : ℝ) : EReal)) := by
  unfold hit
  rw [uitofp_eq]
  by_cases h : b
  · rw [if_pos h, decide_eq_true h]
    by_cases hn : n = 1#32
    · subst hn; simp [IntOp.cmpi]
    · rw [if_neg hn]; simp [IntOp.cmpi, beq_eq_false_iff_ne.mpr (Ne.symm hn)]
  · rw [if_neg h, decide_eq_false h]
    by_cases hn : n = 0#32
    · subst hn; simp [IntOp.cmpi]
    · rw [if_neg hn]; simp [IntOp.cmpi, beq_eq_false_iff_ne.mpr (Ne.symm hn)]

/-- A truth value widened to a word, as a number. -/
theorem flag_eq (b : Prop) [Decidable b] :
    FloatOps.sitofp (F := Ideal) .f32 (BitVec.setWidth 32 (BitVec.ofBool (decide b))) = if b then ((1 : ℝ) : EReal) else ((0 : ℝ) : EReal) := by
  rw [sitofp_eq]
  by_cases h : b
  · rw [if_pos h, decide_eq_true h]; simp
  · rw [if_neg h, decide_eq_false h]; simp

theorem sum_hit_zero (p : Fin 8 → EReal) : ∑ e, hit (thr < p e) 0#32 = below p :=
  Finset.sum_congr rfl fun e _ => by rw [hit_eq]; rfl
theorem sum_hit_one (p : Fin 8 → EReal) : ∑ e, hit (thr < p e) 1#32 = above p :=
  Finset.sum_congr rfl fun e _ => by rw [hit_eq]; rfl
theorem sum_hit_other (p : Fin 8 → EReal) (n : BitVec 32) (h0 : n ≠ 0#32) (h1 : n ≠ 1#32) : ∑ e, hit (thr < p e) n = 0 :=
  Finset.sum_eq_zero fun e _ => by rw [hit_eq, if_neg h0, if_neg h1, ite_self]; rfl

theorem coe_sum {n : ℕ} (f : Fin n → ℝ) : ((∑ i, f i : ℝ) : EReal) = ∑ i, (f i : EReal) := by
  induction n with
  | zero => simp
  | succ n ih => rw [Fin.sum_univ_succ, Fin.sum_univ_succ, EReal.coe_add, ih]

/-- Both counts are real numbers, and they add up to eight. -/
theorem counts (p : Fin 8 → EReal) : ∃ a : ℝ, above p = a ∧ below p = ((8 - a : ℝ) : EReal) := by
  refine ⟨∑ e, if thr < p e then 1 else 0, ?_, ?_⟩
  · rw [coe_sum]; exact Finset.sum_congr rfl fun e _ => by split <;> rfl
  · have h : (8 - ∑ e, (if thr < p e then 1 else 0) : ℝ) = ∑ e, if thr < p e then 0 else 1 := by
      rw [show (8 : ℝ) = ∑ _e : Fin 8, 1 by simp, ← Finset.sum_sub_distrib]
      exact Finset.sum_congr rfl fun e _ => by split <;> norm_num
    rw [h, coe_sum]; exact Finset.sum_congr rfl fun e _ => by split <;> rfl

/-- Eight less the number above is the number not above. -/
theorem eight_sub_above (p : Fin 8 → EReal) : Ideal.ofBits .f32 0x41000000#32 - above p = below p := by
  obtain ⟨a, ha, hb⟩ := counts p
  rw [ofBits_eight, ha, hb, EReal.coe_sub]

/-- The greatest of finitely many reals, over `⊥`, is real. -/
theorem fold_max_real {n : ℕ} (f : Fin (n + 1) → ℝ) : ∃ t : ℝ, (Finset.univ.fold max ⊥ fun e => (f e : EReal)) = t := by
  have h : ∀ s : Finset (Fin (n + 1)), s.Nonempty → ∃ t : ℝ, (s.fold max ⊥ fun e => (f e : EReal)) = t := by
    intro s hs
    induction hs using Finset.Nonempty.cons_induction with
    | singleton a => exact ⟨f a, by simp⟩
    | cons a s ha hs ih =>
      obtain ⟨t, ht⟩ := ih
      refine ⟨max (f a) t, ?_⟩
      rw [Finset.fold_cons, ht]
      exact (EReal.coe_strictMono.monotone.map_max).symm
  exact h _ Finset.univ_nonempty

/-- With finite inputs every score is real. -/
theorem score_real (x : Fin 1024 → ℝ) (g : Fin 8 → Fin 1024 → ℝ) (e : Fin 8) :
    score (fun d => (x d : EReal)) (fun e d => (g e d : EReal)) e = ((∑ d, x d * g e d : ℝ) : EReal) := by
  unfold score; rw [coe_sum]; simp only [EReal.coe_mul]

/-- With finite inputs every probability is real. -/
theorem prob_real (x : Fin 1024 → ℝ) (g : Fin 8 → Fin 1024 → ℝ) (e : Fin 8) :
    ∃ q : ℝ, prob (fun d => (x d : EReal)) (fun e d => (g e d : EReal)) e = q := by
  unfold prob
  simp only [score_real]
  obtain ⟨t, ht⟩ := fold_max_real fun e : Fin 8 => ∑ d, x d * g e d
  rw [ht]
  have hexp : ∀ e', Ideal.exp (((∑ d, x d * g e' d : ℝ) : EReal) - (t : EReal)) = ((Real.exp (∑ d, x d * g e' d - t) : ℝ) : EReal) := fun e' => by
    rw [← EReal.coe_sub]; rfl
  simp only [hexp]
  rw [← coe_sum]
  have hpos : (0 : ℝ) < ∑ e', Real.exp (∑ d, x d * g e' d - t) := Finset.sum_pos (fun _ _ => Real.exp_pos _) Finset.univ_nonempty
  refine ⟨Real.exp (∑ d, x d * g e d - t) * (∑ e', Real.exp (∑ d, x d * g e' d - t))⁻¹, ?_⟩
  unfold Ideal.div
  rw [if_neg (by exact_mod_cast hpos.ne')]
  rw [EReal.coe_mul, EReal.coe_inv]

/-- Multiplying the scaled tokens by the product of the weights is scaling the tokens' hidden layer and multiplying by the
    output weights: sums of finitely many reals, in the other order. -/
theorem reorder_real {n k : ℕ} (x : Fin n → ℝ) (w : Fin k → Fin n → ℝ) (o : Fin k → ℝ) (s : ℝ) :
    ∑ d, (x d * s) * (∑ i, o i * w i d) = ∑ i, ((∑ d, x d * w i d) * s) * o i := by
  simp only [Finset.mul_sum, Finset.sum_mul]
  rw [Finset.sum_comm]
  exact Finset.sum_congr rfl fun i _ => Finset.sum_congr rfl fun d _ => by ring

/-- The same for the two experts, over the extended reals. -/
theorem reorder {n k : ℕ} (x : Fin n → ℝ) (w₀ w₁ : Fin k → Fin n → ℝ) (o : Fin k → ℝ) (s₀ s₁ : ℝ) :
    (∑ d, ((x d : EReal) * (s₀ : EReal)) * (∑ i, (o i : EReal) * (w₀ i d : EReal)))
        + (∑ d, ((x d : EReal) * (s₁ : EReal)) * (∑ i, (o i : EReal) * (w₁ i d : EReal)))
      = ∑ i, ((∑ d, (x d : EReal) * (w₀ i d : EReal)) * (s₀ : EReal) + (∑ d, (x d : EReal) * (w₁ i d : EReal)) * (s₁ : EReal)) * (o i : EReal) := by
  simp only [← EReal.coe_mul, ← coe_sum, ← EReal.coe_add]
  rw [reorder_real, reorder_real, ← Finset.sum_add_distrib]
  refine congrArg _ (Finset.sum_congr rfl fun i _ => ?_)
  ring

end Cert.Moe

end
-- ==== Proof.Steps.lean ====
/- The kernel's body, one grid point at a time. The body does one of two things. At a step below two it multiplies the
   held copy of the output weights with the two experts' columns of this step and stores the products into two column
   ranges of the second scratch buffer (step zero also fills the held copy first). At a step from two on it reads a
   block of tokens and the whole second scratch buffer and stores the block of results. Each case is run here once,
   over any whole buffers. -/
module

public import proofs.«01_k».proof.Proof.Gen.KernelIdeal.Frame
public import proofs.«01_k».proof.Proof.Gen.KernelIdeal.Skeleton
public import Idealize.ShloMosaic.Lib.WritesUnit
public import Idealize.ShloMosaic.Lib.VecWindow

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal Cert.KernelIdeal.Gen

variable {F : FTy → Type} [FloatOps F]

local notation "𝕄" => MT nD τ sig Unit (Elt F) ℕ (UR sig nD τ) ℕ

/-- Is this the step that fills the held copy of the output weights? -/
abbrev atFirst (i : grid0.Coords) : Prop :=
  (Scalar.cmpi .ne (Scalar.extui (Scalar.cmpi .eq (BitVec.ofNat 32 (i 0).val) 0#32)) 0#32) = 1#1
/-- Is this a step that builds products of weights? -/
abbrev atBuild (i : grid0.Coords) : Prop := k0_cond2 i = 1#1
/-- Is this a step that computes a block of tokens? -/
abbrev atTokens (i : grid0.Coords) : Prop := k0_cond3 i = 1#1

/-- The columns of expert `0` and of expert `1` that a block of both experts' weights holds. -/
abbrev slab0 : Rect S2x2048x512 := Rect.unit (s := S2x2048x512) ![0, 0, 0] S1x2048x512.size inb_S2x2048x512_S1x2048x512_0_0_0
abbrev slab1 : Rect S2x2048x512 := Rect.unit (s := S2x2048x512) ![1, 0, 0] S1x2048x512.size inb_S2x2048x512_S1x2048x512_1_0_0

/-- What a building step leaves in the second scratch buffer, of what was there: the two products in the step's two
    column ranges, everything else untouched. -/
structure Built (i : grid0.Coords) (hb : atBuild i) (x2 : Vec F S2x2048x512 .f32) (ow d d' : Vec F S1024x2048 .bf16) : Prop where
  one : ∀ x, d' ((Rect.unit (s := S1024x2048) (k0_off2 i) S1024x512.size (k0_off2_inb i hb)).emb x) = k0_pay3 (View.ld x2 slab1) ow x
  zero : ∀ x, d' ((Rect.unit (s := S1024x2048) (k0_off1 i) S1024x512.size (k0_off1_inb i hb)).emb x) = k0_pay2 (View.ld x2 slab0) ow x
  rest : ∀ y : S1024x2048.Idx, ((y 1).val < 512 * (i 0).val ∨ 512 * (i 0).val + 512 ≤ (y 1).val) →
    ((y 1).val < 512 * (i 0).val + 1024 ∨ 512 * (i 0).val + 1024 + 512 ≤ (y 1).val) → d' y = d y

/-- The two stores of a building step, last first, leave `Built`. -/
theorem built_of_writes (i : grid0.Coords) (hb : atBuild i) {κ : Kind} {sp : Space} (v : View sig κ sp S1024x2048 .bf16)
    (f : v.ty.Contents (Elt F)) (x2 : Vec F S2x2048x512 .f32) (ow : Vec F S1024x2048 .bf16) {p q : Vec F S1024x512 .bf16}
    (hp : p = k0_pay3 (View.ld x2 slab1) ow) (hq : q = k0_pay2 (View.ld x2 slab0) ow) :
    Built i hb x2 ow (v.read (Elt F) f) (v.read (Elt F) (v.writes (Elt F) f
      [⟨Rect.unit (s := S1024x2048) (k0_off2 i) S1024x512.size (k0_off2_inb i hb), p⟩,
        ⟨Rect.unit (s := S1024x2048) (k0_off1 i) S1024x512.size (k0_off1_inb i hb), q⟩])) := by
  subst hp hq
  refine ⟨fun x => View.read_writes_cons_emb _ _ _ _ _ _, fun x => ?_, fun y h1 h2 => ?_⟩
  · refine (View.read_writes_cons_unit_of_not_mem v f (k0_off2_inb i hb) _ _ _ (k0_off2_eq i) 1 (.inl ?_)).trans
      (View.read_writes_cons_emb _ _ _ _ _ _)
    have hx : (x 1).val < 512 := (x 1).isLt
    have : k0_off1 i 1 = 512 * (i 0).val := by rw [k0_off1_eq]; rfl
    show k0_off1 i 1 + 1 * (x 1).val < 512 * (i 0).val + 1024
    omega
  · exact (View.read_writes_cons_unit_of_not_mem v f (k0_off2_inb i hb) _ _ _ (k0_off2_eq i) 1 h2).trans
      (View.read_writes_cons_unit_of_not_mem v f (k0_off1_inb i hb) _ [] _ (k0_off1_eq i) 1 h1)

/-- A load of a whole buffer reads its contents. -/
theorem readAt_all {s : Shape} {e : EltTy} {sp : Space} {M : Memref sig .tc sp s e} (h : M.IsWhole) (x : Vec F s e)
    {off : Fin s.rank → ℕ} (inb : ∀ a, off a + s.size a ≤ s.size a) :
    View.readAt (Elt F) M.view (Rect.unit (s := s) off s.size inb).toLoadRect (h.unread x) = x := by
  rw [View.readAt_full, h.read_unread]

/-- A load of part of a whole buffer reads its contents there. -/
theorem readAt_part {s : Shape} {e : EltTy} {sp : Space} {M : Memref sig .tc sp s e} (h : M.IsWhole) (x : Vec F s e)
    (r : Rect s) : View.readAt (Elt F) M.view r.toLoadRect (h.unread x) = View.ld x r := by
  rw [View.readAt_eq_ld, h.read_unread]

set_option maxHeartbeats 1000000 in
/-- A building step that is not the first. -/
theorem run_build (c : Dev nD) (i : grid0.Coords) (arg1 : Memref sig .tc .vmem S1024x1024 .f32) (harg1 : arg1.IsWhole)
    (arg2 : Memref sig .tc .vmem S8x1024 .f32) (harg2 : arg2.IsWhole) (arg3 : Memref sig .tc .vmem S2x2048x512 .f32) (harg3 : arg3.IsWhole)
    (arg4 : Memref sig .tc .vmem S1024x2048 .f32) (harg4 : arg4.IsWhole) (arg5 : Memref sig .tc .vmem S1024x1024 .f32) (harg5 : arg5.IsWhole)
    (arg6 : Memref sig .tc .vmem S1024x2048 .bf16) (harg6 : arg6.IsWhole) (arg7 : Memref sig .tc .vmem S1024x2048 .bf16) (harg7 : arg7.IsWhole)
    (hc0 : ¬ atFirst i) (hc1 : atBuild i) (hc2 : ¬ atTokens i)
    (x2 : Vec F S2x2048x512 .f32) (ow d : Vec F S1024x2048 .bf16) (E : Set ℕ) (K : PUnit → sProp 𝕄) :
    iprop(owns (c : Thread nD τ) arg3 fullShare x2 ∗ owns (c : Thread nD τ) arg6 fullShare ow ∗ owns (c : Thread nD τ) arg7 fullShare d
        ∗ (iprop(owns (c : Thread nD τ) arg3 fullShare x2 ∗ owns (c : Thread nD τ) arg6 fullShare ow
            ∗ (∃ d', owns (c : Thread nD τ) arg7 fullShare d' ∗ ⌜Built i hc1 x2 ow d d'⌝)) -∗ K ⟨⟩))
      ⊢ wp frame (wpE (defs₀ (F := F)) Variants.none c none) E
          (cc0__fused_moe_kernel i arg1 harg1 arg2 harg2 arg3 harg3 arg4 harg4 arg5 harg5 arg6 harg6 arg7 harg7) K := by
  simp only [cc0__fused_moe_kernel_eq_skeleton]; unfold cc0__fused_moe_kernel_skel
  unfold owns
  iintro ⟨⟨%f2, %hf2, H2⟩, ⟨%fs0, %hfs0, HS0⟩, ⟨%fs1, %hfs1, HS1⟩, Hk⟩
  obtain rfl := harg3.eq_unread hf2; obtain rfl := harg6.eq_unread hfs0; obtain rfl := harg7.eq_unread hfs1
  sl_exec (disch := first | sl_exact hc0 | sl_exact hc1 | sl_exact hc2)
  sl_step
  iapply Hk
  isplitl [H2]
  · iexists _; isplitr; · ipureintro; exact harg3.read_unread _
    iexact H2
  isplitl [HS0]
  · iexists _; isplitr; · ipureintro; exact harg6.read_unread _
    iexact HS0
  iexists _
  isplitl [HS1]
  · iexists _; isplitr; swap; · iexact HS1
    ipureintro; rfl
  ipureintro
  have h := built_of_writes i hc1 arg7.view (harg7.unread d) x2 ow
    (congrArg₂ k0_pay3 (readAt_part harg3 x2 slab1) (readAt_all harg6 ow inb_S1024x2048_S1024x2048_0_0))
    (congrArg₂ k0_pay2 (readAt_part harg3 x2 slab0) (readAt_all harg6 ow inb_S1024x2048_S1024x2048_0_0))
  rw [harg7.read_unread] at h
  exact h

set_option maxHeartbeats 1000000 in
/-- The first step: it fills the held copy of the output weights and then builds. -/
theorem run_first (c : Dev nD) (i : grid0.Coords) (arg1 : Memref sig .tc .vmem S1024x1024 .f32) (harg1 : arg1.IsWhole)
    (arg2 : Memref sig .tc .vmem S8x1024 .f32) (harg2 : arg2.IsWhole) (arg3 : Memref sig .tc .vmem S2x2048x512 .f32) (harg3 : arg3.IsWhole)
    (arg4 : Memref sig .tc .vmem S1024x2048 .f32) (harg4 : arg4.IsWhole) (arg5 : Memref sig .tc .vmem S1024x1024 .f32) (harg5 : arg5.IsWhole)
    (arg6 : Memref sig .tc .vmem S1024x2048 .bf16) (harg6 : arg6.IsWhole) (arg7 : Memref sig .tc .vmem S1024x2048 .bf16) (harg7 : arg7.IsWhole)
    (hc0 : atFirst i) (hc1 : atBuild i) (hc2 : ¬ atTokens i)
    (x2 : Vec F S2x2048x512 .f32) (x3 : Vec F S1024x2048 .f32) (E : Set ℕ) (K : PUnit → sProp 𝕄) :
    iprop(owns (c : Thread nD τ) arg3 fullShare x2 ∗ owns (c : Thread nD τ) arg4 fullShare x3
        ∗ (∃ d, owns (c : Thread nD τ) arg6 fullShare d) ∗ (∃ d, owns (c : Thread nD τ) arg7 fullShare d)
        ∗ (iprop(owns (c : Thread nD τ) arg3 fullShare x2 ∗ owns (c : Thread nD τ) arg4 fullShare x3
            ∗ owns (c : Thread nD τ) arg6 fullShare (k0_pay1 x3)
            ∗ (∃ d d', owns (c : Thread nD τ) arg7 fullShare d' ∗ ⌜Built i hc1 x2 (k0_pay1 x3) d d'⌝)) -∗ K ⟨⟩))
      ⊢ wp frame (wpE (defs₀ (F := F)) Variants.none c none) E
          (cc0__fused_moe_kernel i arg1 harg1 arg2 harg2 arg3 harg3 arg4 harg4 arg5 harg5 arg6 harg6 arg7 harg7) K := by
  simp only [cc0__fused_moe_kernel_eq_skeleton]; unfold cc0__fused_moe_kernel_skel
  unfold owns
  iintro ⟨⟨%f2, %hf2, H2⟩, ⟨%f3, %hf3, H3⟩, ⟨%ds0, %fs0, -, HS0⟩, ⟨%ds1, %fs1, -, HS1⟩, Hk⟩
  obtain rfl := harg3.eq_unread hf2; obtain rfl := harg4.eq_unread hf3
  sl_exec (disch := first | sl_exact hc0 | sl_exact hc1 | sl_exact hc2)
  sl_step
  iapply Hk
  isplitl [H2]
  · iexists _; isplitr; · ipureintro; exact harg3.read_unread _
    iexact H2
  isplitl [H3]
  · iexists _; isplitr; · ipureintro; exact harg4.read_unread _
    iexact H3
  isplitl [HS0]
  · iexists _; isplitr; swap; · iexact HS0
    ipureintro
    unfold run_first.sl.HS0_1
    rw [View.read_writes_full, readAt_all harg4]
  iexists (arg7.view.read (Elt F) fs1), _
  isplitl [HS1]
  · iexists _; isplitr; swap; · iexact HS1
    ipureintro; rfl
  ipureintro
  have hv : run_first.sl.v15 c arg4 harg4 arg6 x3 = k0_pay1 x3 := by
    unfold run_first.sl.v15 run_first.sl.HS0_1
    rw [View.readCov_full, readAt_all harg4]
  exact built_of_writes i hc1 arg7.view fs1 x2 (k0_pay1 x3)
    (congrArg₂ k0_pay3 (readAt_part harg3 x2 slab1) hv)
    (congrArg₂ k0_pay2 (readAt_part harg3 x2 slab0) hv)

set_option maxHeartbeats 1000000 in
/-- A step that computes a block of tokens. -/
theorem run_tokens (c : Dev nD) (i : grid0.Coords) (arg1 : Memref sig .tc .vmem S1024x1024 .f32) (harg1 : arg1.IsWhole)
    (arg2 : Memref sig .tc .vmem S8x1024 .f32) (harg2 : arg2.IsWhole) (arg3 : Memref sig .tc .vmem S2x2048x512 .f32) (harg3 : arg3.IsWhole)
    (arg4 : Memref sig .tc .vmem S1024x2048 .f32) (harg4 : arg4.IsWhole) (arg5 : Memref sig .tc .vmem S1024x1024 .f32) (harg5 : arg5.IsWhole)
    (arg6 : Memref sig .tc .vmem S1024x2048 .bf16) (harg6 : arg6.IsWhole) (arg7 : Memref sig .tc .vmem S1024x2048 .bf16) (harg7 : arg7.IsWhole)
    (hc0 : ¬ atFirst i) (hc1 : ¬ atBuild i) (hc2 : atTokens i)
    (x0 : Vec F S1024x1024 .f32) (x1 : Vec F S8x1024 .f32) (d : Vec F S1024x2048 .bf16) (E : Set ℕ) (K : PUnit → sProp 𝕄) :
    iprop(owns (c : Thread nD τ) arg1 fullShare x0 ∗ owns (c : Thread nD τ) arg2 fullShare x1
        ∗ (∃ d, owns (c : Thread nD τ) arg5 fullShare d) ∗ owns (c : Thread nD τ) arg7 fullShare d
        ∗ (iprop(owns (c : Thread nD τ) arg1 fullShare x0 ∗ owns (c : Thread nD τ) arg2 fullShare x1
            ∗ owns (c : Thread nD τ) arg5 fullShare (k0_pay4 x0 x1 d) ∗ owns (c : Thread nD τ) arg7 fullShare d) -∗ K ⟨⟩))
      ⊢ wp frame (wpE (defs₀ (F := F)) Variants.none c none) E
          (cc0__fused_moe_kernel i arg1 harg1 arg2 harg2 arg3 harg3 arg4 harg4 arg5 harg5 arg6 harg6 arg7 harg7) K := by
  simp only [cc0__fused_moe_kernel_eq_skeleton]; unfold cc0__fused_moe_kernel_skel
  unfold owns
  iintro ⟨⟨%f0, %hf0, H0⟩, ⟨%f1, %hf1, H1⟩, ⟨%d4, %f4, -, H4⟩, ⟨%fs1, %hfs1, HS1⟩, Hk⟩
  obtain rfl := harg1.eq_unread hf0; obtain rfl := harg2.eq_unread hf1; obtain rfl := harg7.eq_unread hfs1
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H4]
  · iexists _; isplitr; swap; · iexact H4
    ipureintro
    rw [View.read_writes_full, readAt_all harg1, readAt_all harg2, readAt_all harg7]
  iexists _; isplitr; · ipureintro; exact harg7.read_unread _
  iexact HS1

end Cert.KernelIdeal.Hand

end
-- ==== Proof.Pay.lean ====
/- What the body computes, at an index: the products of weights that a building step stores, the block of results that a
   token step stores, and the blocks of the arrays that each step reads. -/
module

public import proofs.«01_k».proof.Proof.Gen.KernelIdeal.Frame
public import proofs.«01_k».proof.Proof.Gen.KernelIdeal.Skeleton
public import proofs.«01_k».proof.Proof.Spec
public import proofs.«01_k».proof.Proof.Steps
public import Idealize.ShloMosaic.Lib.Pipeline.ValueKit
public import Idealize.ShloMosaic.Lib.Pointwise

@[expose] public section

set_option maxRecDepth 16384

noncomputable section

namespace Cert.KernelIdeal.Hand

open Idealize.ShloMosaic Idealize.ShloMosaic.TcCoe
open Cert.KernelIdeal Cert.KernelIdeal.Gen

/-- The held copy of the output weights is the output weights. -/
theorem pay1_eq (o : Vec Ideal S1024x2048 .f32) : k0_pay1 o = (o : S1024x2048.Idx → EReal) := by
  funext y
  obtain ⟨r, k, rfl⟩ : ∃ r k, y = ix2 r k := ⟨_, _, ValueIdx.eq_ix2 y⟩
  pointwise [k0_pay1]

/-- The product with the first expert's columns. -/
theorem pay2_apply (x2 : Vec Ideal S2x2048x512 .f32) (ow : Vec Ideal S1024x2048 .bf16) (r : Fin 1024) (l : Fin 512) :
    k0_pay2 (View.ld x2 slab0) ow (ix2 r l) = ∑ k, ow (ix2 r k) * x2 (ix3 0 k l) := by
  pointwise [k0_pay2]

/-- The product with the second expert's columns. -/
theorem pay3_apply (x2 : Vec Ideal S2x2048x512 .f32) (ow : Vec Ideal S1024x2048 .bf16) (r : Fin 1024) (l : Fin 512) :
    k0_pay3 (View.ld x2 slab1) ow (ix2 r l) = ∑ k, ow (ix2 r k) * x2 (ix3 1 k l) := by
  pointwise [k0_pay3]

/-- A block of results. -/
theorem pay4_apply (x : Vec Ideal S1024x1024 .f32) (g : Vec Ideal S8x1024 .f32) (w : Vec Ideal S1024x2048 .bf16) (r l : Fin 1024) :
    k0_pay4 x g w (ix2 r l)
      = (∑ d : Fin 1024, (x (ix2 r d) * (Moe.prob (fun d => x (ix2 r d)) (fun e d => g (ix2 e d)) 0
            * Moe.below (Moe.prob (fun d => x (ix2 r d)) fun e d => g (ix2 e d)))) * w (ix2 l ⟨d.val, by omega⟩))
        + ∑ d : Fin 1024, (x (ix2 r d) * (Moe.prob (fun d => x (ix2 r d)) (fun e d => g (ix2 e d)) 1
            * Moe.above (Moe.prob (fun d => x (ix2 r d)) fun e d => g (ix2 e d)))) * w (ix2 l ⟨1024 + d.val, by omega⟩) := by
  rw [← Moe.eight_sub_above]
  pointwise [k0_pay4]
  simp only [Moe.flag_eq, Moe.ofBits_bot]
  rfl

variable (m : (ℓ : Loc nD τ sig) → Buf (Elt Ideal) ℓ) (c : Dev nD)

theorem index0_0 : ∀ t : Fin cfg0.N, win0_0.index t = ![t.val - 2, 0] := by decide +kernel
theorem index0_1 : ∀ t : Fin cfg0.N, win0_1.index t = ![0, 0] := by decide +kernel
theorem index0_2 : ∀ t : Fin cfg0.N, win0_2.index t = ![0, 0, min t.val 1] := by decide +kernel
theorem index0_3 : ∀ t : Fin cfg0.N, win0_3.index t = ![0, 0] := by decide +kernel
theorem index0_4 : ∀ t : Fin cfg0.N, win0_4.index t = ![t.val - 2, 0] := by decide +kernel

/-- The gate's weights, at every step. -/
theorem blk1 (t : Fin cfg0.N) : (iblk m c 1 t : Vec Ideal S8x1024 .f32) = m ((c.tc : Thread nD τ).loc main_arg1) := by
  funext y
  blk_ext [iblk, V, index0_1 t]

/-- The output weights, at every step. -/
theorem blk3 (t : Fin cfg0.N) : (iblk m c 3 t : Vec Ideal S1024x2048 .f32) = m ((c.tc : Thread nD τ).loc main_arg3) := by
  funext y
  blk_ext [iblk, V, index0_3 t]

/-- The experts' weights at a step: some columns of the first two experts. -/
theorem blk2 (t : Fin cfg0.N) (e : Fin 2) (k : Fin 2048) (l : Fin 512) :
    (iblk m c 2 t : Vec Ideal S2x2048x512 .f32) (ix3 e k l)
      = (m ((c.tc : Thread nD τ).loc main_arg2) : Vec Ideal S8x2048x1024 .f32) (ix3 ⟨e.val, by omega⟩ k ⟨min t.val 1 * 512 + l.val, by omega⟩) := by
  blk_ext [iblk, V, index0_2 t]

/-- The tokens as a matrix, at an index. -/
theorem flat_apply (x : Vec Ideal S1x2048x1024 .f32) (q : Fin 2048) (d : Fin 1024) :
    shapeCast S2048x1024 x shapeCasts_S1x2048x1024_S2048x1024 (ix2 q d) = x (ix3 0 q d) := by
  pointwise

/-- The tokens at a step: a block of rows. -/
theorem blk0 (t : Fin cfg0.N) (r d : Fin 1024) (h : (t.val - 2) * 1024 + r.val < 2048) :
    (iblk m c 0 t : Vec Ideal S1024x1024 .f32) (ix2 r d)
      = (m ((c.tc : Thread nD τ).loc main_arg0) : Vec Ideal S1x2048x1024 .f32) (ix3 0 ⟨(t.val - 2) * 1024 + r.val, h⟩ d) := by
  have e : (V m c main_v0 : Vec Ideal S2048x1024 .f32) = shapeCast S2048x1024 (m ((c.tc : Thread nD τ).loc main_arg0) : Vec Ideal S1x2048x1024 .f32) shapeCasts_S1x2048x1024_S2048x1024 := by
    rfl
  refine Eq.trans (b := (V m c main_v0 : Vec Ideal S2048x1024 .f32) (ix2 ⟨(t.val - 2) * 1024 + r.val, h⟩ d)) ?_ ?_
  · blk_ext [iblk, index0_0 t]
  · rw [e]
    exact flat_apply _ _ _

end Cert.KernelIdeal.Hand

end
-- ==== Proof.Fill.lean ====
/- What the second scratch buffer holds. Column `l` of its first half is to hold the output weights times column `l` of
   expert `0`, and column `l` of its second half the same for expert `1`. A building step fills one block of columns of
   each half; after both building steps the buffer is full. -/
module

public import proofs.«01_k».proof.Proof.Pay

@[expose] public section

set_option maxRecDepth 16384

noncomputable section

namespace Cert.KernelIdeal.Hand

open Idealize.ShloMosaic Idealize.ShloMosaic.TcCoe
open Cert.KernelIdeal Cert.KernelIdeal.Gen

variable (m : (ℓ : Loc nD τ sig) → Buf (Elt Ideal) ℓ) (c : Dev nD)

/-- The kernel's arguments. -/
abbrev X : Vec Ideal S1x2048x1024 .f32 := m ((c.tc : Thread nD τ).loc main_arg0)
abbrev GW : Vec Ideal S8x1024 .f32 := m ((c.tc : Thread nD τ).loc main_arg1)
abbrev EW : Vec Ideal S8x2048x1024 .f32 := m ((c.tc : Thread nD τ).loc main_arg2)
abbrev OW : Vec Ideal S1024x2048 .f32 := m ((c.tc : Thread nD τ).loc main_arg3)

/-- One product of weights: row `r` of the output weights times column `l` of expert `e`. -/
def pair (r : Fin 1024) (e : Fin 8) (l : Fin 1024) : EReal := ∑ k : Fin 2048, OW m c (ix2 r k) * EW m c (ix3 e k l)

/-- All of them, the two experts side by side. -/
def pairs : Vec Ideal S1024x2048 .bf16 := fun y =>
  pair m c (y 0) ⟨(y 1).val / 1024, by have : (y 1).val < 2048 := (y 1).isLt; omega⟩ ⟨(y 1).val % 1024, by omega⟩

/-- The first `n` blocks of columns of both halves are in place. -/
def Filled (n : ℕ) (d : Vec Ideal S1024x2048 .bf16) : Prop :=
  ∀ y : S1024x2048.Idx, (y 1).val % 1024 < 512 * n → d y = pairs m c y

theorem filled_zero (d : Vec Ideal S1024x2048 .bf16) : Filled m c 0 d := fun y h => absurd h (by omega)

theorem filled_pairs (n : ℕ) : Filled m c n (pairs m c) := fun _ _ => rfl

/-- Two blocks of columns make the whole. -/
theorem Filled.eq {n : ℕ} (hn : 2 ≤ n) {d : Vec Ideal S1024x2048 .bf16} (h : Filled m c n d) : d = pairs m c :=
  funext fun y => h y (by omega)

theorem coords0 : ∀ t : Fin cfg0.N, ((grid0.coords t) 0).val = t.val := by decide +kernel

/-- One step's product for expert `e`, as an entry of `pairs`. -/
theorem pair_of_step (t : Fin cfg0.N) (ht : t.val < 2) (e : Fin 2) (r : Fin 1024) (l : Fin 512) :
    (∑ k, k0_pay1 (iblk m c 3 t : Vec Ideal S1024x2048 .f32) (ix2 r k) * (iblk m c 2 t : Vec Ideal S2x2048x512 .f32) (ix3 e k l) : EReal)
      = pair m c r ⟨e.val, by omega⟩ ⟨512 * t.val + l.val, by omega⟩ := by
  unfold pair
  refine Finset.sum_congr rfl fun k _ => ?_
  rw [pay1_eq, blk3, blk2]
  congr 3
  apply Fin.ext
  show min t.val 1 * 512 + l.val = 512 * t.val + l.val
  omega

theorem pairs_at (y : S1024x2048.Idx) (r : Fin 1024) (e : Fin 8) (l : Fin 1024) (h0 : y 0 = r) (he : (y 1).val / 1024 = e.val)
    (hl : (y 1).val % 1024 = l.val) : pairs m c y = pair m c r e l := by
  subst h0
  unfold pairs
  congr 1
  · exact Fin.ext he
  · exact Fin.ext hl

/-- A building step fills the next block of both halves. -/
theorem Built.filled {t : Fin cfg0.N} (ht : t.val < 2) {hb : atBuild (grid0.coords t)} {d d' : Vec Ideal S1024x2048 .bf16}
    (B : Built (grid0.coords t) hb (iblk m c 2 t : Vec Ideal S2x2048x512 .f32) (k0_pay1 (iblk m c 3 t : Vec Ideal S1024x2048 .f32)) d d')
    (hd : Filled m c t.val d) : Filled m c (t.val + 1) d' := by
  intro y hy
  have h2 : (y 1).val < 2048 := (y 1).isLt
  have hi := coords0 t
  by_cases h1 : 512 * t.val + 1024 ≤ (y 1).val
  · by_cases h1' : (y 1).val < 512 * t.val + 1024 + 512
    · have hl : (y 1).val - (512 * t.val + 1024) < 512 := by omega
      have hy' : (Rect.unit (s := S1024x2048) (k0_off2 (grid0.coords t)) S1024x512.size (k0_off2_inb (grid0.coords t) hb)).emb
          (ix2 (n0 := 1024) (n1 := 512) (y 0) ⟨(y 1).val - (512 * t.val + 1024), hl⟩) = y := by
        funext a
        apply Fin.ext
        match a with
        | 0 =>
          show k0_off2 (grid0.coords t) 0 + 1 * (y 0).val = (y 0).val
          have : k0_off2 (grid0.coords t) 0 = 0 := by rw [k0_off2_eq]; rfl
          omega
        | 1 =>
          show k0_off2 (grid0.coords t) 1 + 1 * ((y 1).val - (512 * t.val + 1024)) = (y 1).val
          have : k0_off2 (grid0.coords t) 1 = 512 * ((grid0.coords t) 0).val + 1024 := by rw [k0_off2_eq]; rfl
          omega
      have := B.one (ix2 (n0 := 1024) (n1 := 512) (y 0) ⟨(y 1).val - (512 * t.val + 1024), hl⟩)
      rw [hy'] at this
      rw [this]
      refine (pay3_apply _ _ _ _).trans ((pair_of_step m c t ht 1 _ _).trans ?_)
      refine (pairs_at m c y _ _ _ rfl ?_ ?_).symm
      · show _ = 1
        omega
      · show _ = 512 * t.val + ((y 1).val - (512 * t.val + 1024))
        omega
    · exfalso; omega
  · by_cases h0 : 512 * t.val ≤ (y 1).val ∧ (y 1).val < 512 * t.val + 512
    · have hl : (y 1).val - 512 * t.val < 512 := by omega
      have hy' : (Rect.unit (s := S1024x2048) (k0_off1 (grid0.coords t)) S1024x512.size (k0_off1_inb (grid0.coords t) hb)).emb
          (ix2 (n0 := 1024) (n1 := 512) (y 0) ⟨(y 1).val - 512 * t.val, hl⟩) = y := by
        funext a
        apply Fin.ext
        match a with
        | 0 =>
          show k0_off1 (grid0.coords t) 0 + 1 * (y 0).val = (y 0).val
          have : k0_off1 (grid0.coords t) 0 = 0 := by rw [k0_off1_eq]; rfl
          omega
        | 1 =>
          show k0_off1 (grid0.coords t) 1 + 1 * ((y 1).val - 512 * t.val) = (y 1).val
          have : k0_off1 (grid0.coords t) 1 = 512 * ((grid0.coords t) 0).val := by rw [k0_off1_eq]; rfl
          omega
      have := B.zero (ix2 (n0 := 1024) (n1 := 512) (y 0) ⟨(y 1).val - 512 * t.val, hl⟩)
      rw [hy'] at this
      rw [this]
      refine (pay2_apply _ _ _ _).trans ((pair_of_step m c t ht 0 _ _).trans ?_)
      refine (pairs_at m c y _ _ _ rfl ?_ ?_).symm
      · show _ = 0
        omega
      · show _ = 512 * t.val + ((y 1).val - 512 * t.val)
        omega
    · rw [B.rest y (by rw [hi]; omega) (by rw [hi]; omega)]
      exact hd y (by omega)

end Cert.KernelIdeal.Hand

end
-- ==== Proof.Body.lean ====
/- The kernel's run. After step `n` the first scratch buffer holds the output weights and the second the products of
   weights filled so far; from the second step on it holds all of them, and every later step stores one block of results
   computed from them. -/
module

public import proofs.«01_k».proof.Proof.Fill
public import Idealize.ShloMosaic.Lib.Pipeline.FrameBody
public import Idealize.ShloMosaic.Lib.Pipeline.FrameSuffix
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-! Which step does what. -/

theorem atFirst_iff : ∀ t : Fin cfg0.N, atFirst (grid0.coords t) ↔ t.val = 0 := by decide +kernel
theorem atBuild_iff : ∀ t : Fin cfg0.N, atBuild (grid0.coords t) ↔ t.val < 2 := by decide +kernel
theorem atTokens_iff : ∀ t : Fin cfg0.N, atTokens (grid0.coords t) ↔ 2 ≤ t.val := by decide +kernel

/-- A building step leaves the block of results alone, and the pipeline does not write it back; -/
theorem idle_build : ∀ t : Fin cfg0.N, t.val < 2 → cfg0.idle 4 (grid0.coords t) = true := by decide +kernel
theorem flush_build : ∀ t : Fin cfg0.N, t.val < 2 → (cfg0.win 4).flush t = false := by decide +kernel
/-- a later step stores it. -/
theorem live_tokens : ∀ t : Fin cfg0.N, 2 ≤ t.val → cfg0.idle 4 (grid0.coords t) = false := by decide +kernel

/-- The two scratch buffers and, at a step, the buffer of each window. -/
abbrev held : Memref sig .tc .vmem S1024x2048 .bf16 := Memref.whole cc0_scratch0
abbrev made : Memref sig .tc .vmem S1024x2048 .bf16 := Memref.whole cc0_scratch1
abbrev buf (w : Fin 5) (t : Fin cfg0.N) := (win0 w).stage (cfg0.slots t w)

/-- The scratch buffers and the generator at anything. -/
theorem any_eq (c : Dev nD) :
    (Pipeline.ΦA spec0 c : sProp 𝕄)
      = iprop(((∃ d, owns (c : Thread nD τ) held fullShare d) ∗ (∃ d, owns (c : Thread nD τ) made fullShare d)) ∗ (∃ r, prngReg c r)) := by
  unfold Pipeline.ΦA; rw [scopedRest0_eq]; simp only [held, made, owns_whole]; try rfl

/-- What holds before step `n`. -/
def inv (c : Dev nD) : (n : ℕ) → n ≤ cfg0.N → sProp 𝕄
  | 0, _ => Pipeline.ΦA spec0 c
  | n + 1, _ => iprop((owns (c : Thread nD τ) held fullShare (k0_pay1 (OW m c))
      ∗ (∃ d, owns (c : Thread nD τ) made fullShare d ∗ ⌜Filled m c (n + 1) d⌝)) ∗ (∃ r, prngReg c r))

theorem inv_pos (c : Dev nD) (n : ℕ) (h : n ≤ cfg0.N) (hz : n ≠ 0) :
    inv m c n h = iprop((owns (c : Thread nD τ) held fullShare (k0_pay1 (OW m c))
      ∗ (∃ d, owns (c : Thread nD τ) made fullShare d ∗ ⌜Filled m c n d⌝)) ∗ (∃ r, prngReg c r)) := by
  cases n with
  | zero => exact absurd rfl hz
  | succ n => rfl

/-- The block of results a token step leaves. -/
def block (c : Dev nD) (t : Fin cfg0.N) : Vec Ideal S1024x1024 .f32 := k0_pay4 (iblk m c 0 t) (iblk m c 1 t) (pairs m c)

/-- What each window's buffer holds after each step, with the invariant. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => block m c t
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]
theorem inv_before (c : Dev nD) (t : Fin cfg0.N) : (dats m 0 c).Φ t.castSucc = inv m c t.val (Nat.le_of_lt t.isLt) := by
  dsimp only [dats]; exact Pipeline.Dat.Φ_castSucc (inv m c) t
theorem inv_after (c : Dev nD) (t : Fin cfg0.N) : (dats m 0 c).Φ t.succ = inv m c (t.val + 1) t.isLt := rfl

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = block m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

theorem leaves_0 (c : Dev nD) (t : Fin cfg0.N) : (dats m 0 c).leavesExact 0 t = owns (c : Thread nD τ) (buf 0 t) fullShare (iblk m c 0 t) := by
  unfold Dat.leavesExact; rw [show cfg0.idle 0 (grid0.coords t) = false from rfl, after_0]
theorem leaves_1 (c : Dev nD) (t : Fin cfg0.N) : (dats m 0 c).leavesExact 1 t = owns (c : Thread nD τ) (buf 1 t) fullShare (iblk m c 1 t) := by
  unfold Dat.leavesExact; rw [show cfg0.idle 1 (grid0.coords t) = false from rfl, after_1]
theorem leaves_2 (c : Dev nD) (t : Fin cfg0.N) : (dats m 0 c).leavesExact 2 t = owns (c : Thread nD τ) (buf 2 t) fullShare (iblk m c 2 t) := by
  unfold Dat.leavesExact; rw [show cfg0.idle 2 (grid0.coords t) = false from rfl, after_2]
theorem leaves_3 (c : Dev nD) (t : Fin cfg0.N) : (dats m 0 c).leavesExact 3 t = owns (c : Thread nD τ) (buf 3 t) fullShare (iblk m c 3 t) := by
  unfold Dat.leavesExact; rw [show cfg0.idle 3 (grid0.coords t) = false from rfl, after_3]
theorem leaves_4 (c : Dev nD) (t : Fin cfg0.N) (h : 2 ≤ t.val) :
    (dats m 0 c).leavesExact 4 t = owns (c : Thread nD τ) (buf 4 t) fullShare (block m c t) := by
  unfold Dat.leavesExact; rw [live_tokens t h, after_4]
theorem leaves_4_build (c : Dev nD) (t : Fin cfg0.N) (h : t.val < 2) :
    (dats m 0 c).leavesExact 4 t = iprop(∃ d, owns (c : Thread nD τ) (buf 4 t) fullShare ((dats m 0 c).before 4 t d)) :=
  (dats m 0 c).leavesExact_idle 4 t (idle_build t h) (flush_build t h)

/-- What a step starts from, -/
def stepPre (c : Dev nD) (t : Fin cfg0.N) : sProp 𝕄 :=
  iprop((dats m 0 c).Φ t.castSucc ∗ (dats m 0 c).owesAt () t.castSucc
    ∗ (∃ d, owns (c : Thread nD τ) (buf 0 t) fullShare ((dats m 0 c).before 0 t d))
    ∗ (∃ d, owns (c : Thread nD τ) (buf 1 t) fullShare ((dats m 0 c).before 1 t d))
    ∗ (∃ d, owns (c : Thread nD τ) (buf 2 t) fullShare ((dats m 0 c).before 2 t d))
    ∗ (∃ d, owns (c : Thread nD τ) (buf 3 t) fullShare ((dats m 0 c).before 3 t d))
    ∗ (∃ d, owns (c : Thread nD τ) (buf 4 t) fullShare ((dats m 0 c).before 4 t d)))

/-- and what it ends with. -/
def stepPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

/-- The first step. -/
theorem step_first (c : Dev nD) (t : Fin cfg0.N) (hz : t.val = 0) :
    stepPre m c t ⊢ wp frame (wpE (defs₀ (F := Ideal)) Variants.none c none) Set.univ (bodyAt0 t) (fun _ => stepPost m c t) := by
  unfold stepPre stepPost bodyAt0
  simp only [before_0, before_1, before_2, before_3]
  rw [show (dats m 0 c).owesAt () t.succ = (dats m 0 c).owesAt () t.castSucc from rfl, inv_after, inv_before,
    leaves_0, leaves_1, leaves_2, leaves_3, leaves_4_build m c t (by omega), inv_pos m c _ _ (Nat.succ_ne_zero _),
    show inv m c t.val (Nat.le_of_lt t.isLt) = Pipeline.ΦA spec0 c from by
      obtain ⟨n, hn⟩ := t; obtain rfl : n = 0 := hz; rfl, any_eq]
  iintro ⟨⟨⟨HS0, HS1⟩, Hg⟩, Ho, ⟨%d0, H0⟩, ⟨%d1, H1⟩, ⟨%d2, H2⟩, ⟨%d3, H3⟩, H4⟩
  iapply (run_first c (grid0.coords t) _ _ _ _ _ _ _ _ _ _ _ _ _ _ ((atFirst_iff t).mpr hz) ((atBuild_iff t).mpr (by omega))
    (fun h => absurd ((atTokens_iff t).mp h) (by omega)) (iblk m c 2 t) (iblk m c 3 t) Set.univ _)
  isplitl [H2]; · iexact H2
  isplitl [H3]; · iexact H3
  isplitl [HS0]; · iexact HS0
  isplitl [HS1]; · iexact HS1
  iintro ⟨H2, H3, HS0, ⟨%d, %d', HS1, %hB⟩⟩
  isplitl [HS0 HS1 Hg]
  · isplitl [HS0 HS1]
    · isplitl [HS0]
      · rw [show OW m c = (iblk m c 3 t : Vec Ideal S1024x2048 .f32) from (blk3 m c t).symm]; iexact HS0
      iexists _
      isplitl [HS1]; · iexact HS1
      ipureintro
      exact Built.filled m c (by omega) hB (by rw [hz]; exact filled_zero m c d)
    iexact Hg
  isplitl [Ho]; · iexact Ho
  isplitl [H0]; · iexact H0
  isplitl [H1]; · iexact H1
  isplitl [H2]; · iexact H2
  isplitl [H3]; · iexact H3
  iexact H4

/-- The other building step. -/
theorem step_build (c : Dev nD) (t : Fin cfg0.N) (hz : t.val ≠ 0) (ht : t.val < 2) :
    stepPre m c t ⊢ wp frame (wpE (defs₀ (F := Ideal)) Variants.none c none) Set.univ (bodyAt0 t) (fun _ => stepPost m c t) := by
  unfold stepPre stepPost bodyAt0
  simp only [before_0, before_1, before_2, before_3]
  rw [show (dats m 0 c).owesAt () t.succ = (dats m 0 c).owesAt () t.castSucc from rfl, inv_after, inv_before,
    leaves_0, leaves_1, leaves_2, leaves_3, leaves_4_build m c t ht, inv_pos m c _ _ (Nat.succ_ne_zero _), inv_pos m c _ _ hz]
  iintro ⟨⟨⟨HS0, ⟨%d, HS1, %hd⟩⟩, Hg⟩, Ho, ⟨%d0, H0⟩, ⟨%d1, H1⟩, ⟨%d2, H2⟩, ⟨%d3, H3⟩, H4⟩
  iapply (run_build c (grid0.coords t) _ _ _ _ _ _ _ _ _ _ _ _ _ _ (fun h => hz ((atFirst_iff t).mp h)) ((atBuild_iff t).mpr ht)
    (fun h => absurd ((atTokens_iff t).mp h) (by omega)) (iblk m c 2 t) (k0_pay1 (OW m c)) d Set.univ _)
  isplitl [H2]; · iexact H2
  isplitl [HS0]; · iexact HS0
  isplitl [HS1]; · iexact HS1
  iintro ⟨H2, HS0, ⟨%d', HS1, %hB⟩⟩
  isplitl [HS0 HS1 Hg]
  · isplitl [HS0 HS1]
    · isplitl [HS0]; · iexact HS0
      iexists _
      isplitl [HS1]; · iexact HS1
      ipureintro
      rw [show OW m c = (iblk m c 3 t : Vec Ideal S1024x2048 .f32) from (blk3 m c t).symm] at hB
      exact Built.filled m c ht hB hd
    iexact Hg
  isplitl [Ho]; · iexact Ho
  isplitl [H0]; · iexact H0
  isplitl [H1]; · iexact H1
  isplitl [H2]; · iexact H2
  isplitl [H3]; · iexact H3
  iexact H4

/-- A token step. -/
theorem step_tokens (c : Dev nD) (t : Fin cfg0.N) (ht : 2 ≤ t.val) :
    stepPre m c t ⊢ wp frame (wpE (defs₀ (F := Ideal)) Variants.none c none) Set.univ (bodyAt0 t) (fun _ => stepPost m c t) := by
  unfold stepPre stepPost bodyAt0
  simp only [before_0, before_1, before_2, before_3]
  rw [show (dats m 0 c).owesAt () t.succ = (dats m 0 c).owesAt () t.castSucc from rfl, inv_after, inv_before,
    leaves_0, leaves_1, leaves_2, leaves_3, leaves_4 m c t ht, inv_pos m c _ _ (Nat.succ_ne_zero _), inv_pos m c t.val _ (by omega)]
  iintro ⟨⟨⟨HS0, ⟨%d, HS1, %hd⟩⟩, Hg⟩, Ho, ⟨%d0, H0⟩, ⟨%d1, H1⟩, ⟨%d2, H2⟩, ⟨%d3, H3⟩, ⟨%d4, H4⟩⟩
  obtain rfl := hd.eq m c ht
  iapply (run_tokens c (grid0.coords t) _ _ _ _ _ _ _ _ _ _ _ _ _ _ (fun h => absurd ((atFirst_iff t).mp h) (by omega))
    (fun h => absurd ((atBuild_iff t).mp h) (by omega)) ((atTokens_iff t).mpr ht) (iblk m c 0 t) (iblk m c 1 t) (pairs m c) Set.univ _)
  isplitl [H0]; · iexact H0
  isplitl [H1]; · iexact H1
  isplitl [H4]; · iexists _; iexact H4
  isplitl [HS1]; · iexact HS1
  iintro ⟨H0, H1, H4, HS1⟩
  isplitl [HS0 HS1 Hg]
  · isplitl [HS0 HS1]
    · isplitl [HS0]; · iexact HS0
      iexists _
      isplitl [HS1]; · iexact HS1
      ipureintro
      exact filled_pairs m c _
    iexact Hg
  isplitl [Ho]; · iexact Ho
  isplitl [H0]; · iexact H0
  isplitl [H1]; · iexact H1
  isplitl [H2]; · iexact H2
  isplitl [H3]; · iexact H3
  iexact H4

theorem step (c : Dev nD) (t : Fin cfg0.N) :
    stepPre m c t ⊢ wp frame (wpE (defs₀ (F := Ideal)) Variants.none c none) Set.univ (bodyAt0 t) (fun _ => stepPost m c t) := by
  by_cases ht : 2 ≤ t.val
  · exact step_tokens m c t ht
  · by_cases hz : t.val = 0
    · exact step_first m c t hz
    · exact step_build m c t hz (by omega)

theorem row (t : Fin cfg0.N) : defs₀ (F := Ideal) .tc cfg0.body (cfg0.bodyArgs t (cfg0.slots t)) = bodyAt0 t := by
  unfold defs₀; rw [Defs.onTc_tc]

/-- Every step keeps the invariant. -/
theorem obligation (c : Dev nD) : BodyObligation (dats m 0 c) (defs₀ (F := Ideal)) Variants.none () Set.univ := fun t => by
  rw [bigSep_W0, bigSep_W0, row]
  exact triple_restated (step m c t) rfl .rfl fun _ => .rfl

theorem enter (c : Dev nD) : Pipeline.ΦA spec0 c ⊢ (dats m 0 c).Φ 0 := by
  rw [show (dats m 0 c).Φ 0 = Pipeline.ΦA spec0 c from rfl]

theorem leave (c : Dev nD) : (dats m 0 c).Φ (Fin.last cfg0.N) ⊢ Pipeline.ΦA spec0 c := by
  rw [show (dats m 0 c).Φ (Fin.last cfg0.N) = inv m c cfg0.N le_rfl from rfl,
    inv_pos m c _ _ (by have : cfg0.N = 4 := N_0; omega), any_eq]
  iintro ⟨⟨HS0, ⟨%d, HS1, -⟩⟩, Hg⟩
  isplitl [HS0 HS1]
  · isplitl [HS0]
    · iexists _; iexact HS0
    iexists _; iexact HS1
  iexact Hg

-- the launch's implicit arguments are found by unifying its conclusion with this one
set_option backward.isDefEq.respectTransparency.types false in
set_option maxHeartbeats 800000 in
/-- The launch: what every buffer holds at the end, and every counter at zero. -/
theorem ends : θ_run defs (onTc (τ := τ) (main (F := Ideal))) (s₀ m ρ) (fun r =>
    Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := enter m) (hout := leave m)

/-- The arguments end as they began, and every counter at zero. -/
theorem unchanged : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (ends m ρ)))
    ((θ_run defs _ _).mono (fun _ h => h.2) (ends m ρ))

end Cert.KernelIdeal.Hand

end
-- ==== Proof.Result.lean ====
/- What the kernel returns: every entry of its result as sums over the arguments. -/
module

public import proofs.«01_k».proof.Proof.Body
public import Idealize.ShloMosaic.Lib.Pipeline.ValueKit
public import Idealize.ShloMosaic.Lib.Pointwise

@[expose] public section

set_option maxRecDepth 16384

noncomputable section

namespace Cert.KernelIdeal.Hand

open Idealize.ShloMosaic Idealize.ShloMosaic.TcCoe
open Idealize.SL.Sem
open Cert.KernelIdeal Cert.KernelIdeal.Gen

variable (m : (ℓ : Loc nD τ sig) → Buf (Elt Ideal) ℓ) (ρ : Dev nD → PrngReg) (c : Dev nD)

/-- A token's shares of the experts. -/
def share (q : Fin 2048) : Fin 8 → EReal := Moe.prob (fun d => X m c (ix3 0 q d)) fun e d => GW m c (ix2 e d)

/-- Entry `l` of the result at token `q`: the token, weighted for each of the two experts, times that expert's product of
    weights. -/
def entry (q : Fin 2048) (l : Fin 1024) : EReal :=
  (∑ d : Fin 1024, (X m c (ix3 0 q d) * (share m c q 0 * Moe.below (share m c q))) * pair m c l 0 d)
    + ∑ d : Fin 1024, (X m c (ix3 0 q d) * (share m c q 1 * Moe.above (share m c q))) * pair m c l 1 d

/-- A block of results is a block of rows of these entries. -/
theorem block_apply (t : Fin cfg0.N) (r l : Fin 1024) (h : (t.val - 2) * 1024 + r.val < 2048) :
    block m c t (ix2 r l) = entry m c ⟨(t.val - 2) * 1024 + r.val, h⟩ l := by
  refine (pay4_apply _ _ _ r l).trans ?_
  have hx : (fun d => (iblk m c 0 t : Vec Ideal S1024x1024 .f32) (ix2 r d)) = fun d => X m c (ix3 0 ⟨(t.val - 2) * 1024 + r.val, h⟩ d) :=
    funext fun d => blk0 m c t r d h
  have hg : (fun e d => (iblk m c 1 t : Vec Ideal S8x1024 .f32) (ix2 e d)) = fun e d => GW m c (ix2 e d) := by rw [blk1]
  have h0 : ∀ d : Fin 1024, pairs m c (ix2 l ⟨d.val, by omega⟩) = pair m c l 0 d := fun d =>
    pairs_at m c _ _ _ _ rfl (show d.val / 1024 = 0 by omega) (show d.val % 1024 = d.val by omega)
  have h1 : ∀ d : Fin 1024, pairs m c (ix2 l ⟨1024 + d.val, by omega⟩) = pair m c l 1 d := fun d =>
    pairs_at m c _ _ _ _ rfl (show (1024 + d.val) / 1024 = 1 by omega) (show (1024 + d.val) % 1024 = d.val by omega)
  unfold entry share
  rw [hx, hg]
  refine congrArg₂ (· + ·) (Finset.sum_congr rfl fun d _ => ?_) (Finset.sum_congr rfl fun d _ => ?_)
  · rw [h0, blk0 m c t r d h]
  · rw [h1, blk0 m c t r d h]

/-- The array the pipeline writes. -/
theorem written : (dats m 0 c).arrAt 4 cfg0.N = (fun y => entry m c (y 0) (y 1) : Vec Ideal S2048x1024 .f32) := by
  refine (dats m 0 c).arrAt_eq_of_covers 4 _ (by decide +kernel) fun t hf y => ?_
  obtain ⟨r, l, rfl⟩ : ∃ (r l : Fin 1024), y = ix2 r l := ⟨_, _, ValueIdx.eq_ix2 y⟩
  blk_simp
  rw [after_4]
  have ht : t.val < 4 := lt_of_lt_of_eq t.isLt N_0
  refine (block_apply m c t r l (by omega)).trans ?_
  refine congrArg₂ (entry m c) ?_ ?_
  · apply Fin.ext
    blk_simp [index0_4 t]
  · apply Fin.ext
    blk_simp [index0_4 t]

/-- A matrix of results as the result, at an index. -/
theorem unflat_apply (y : Vec Ideal S2048x1024 .f32) (q : Fin 2048) (l : Fin 1024) :
    shapeCast S1x2048x1024 y shapeCasts_S2048x1024_S1x2048x1024 (ix3 0 q l) = y (ix2 q l) := by
  pointwise

/-- What the kernel's result buffer holds at the end. -/
def returned : Vec Ideal S1x2048x1024 .f32 := fun y => entry m c (y 1) (y 2)

theorem tail_eq : Pipeline.afterTail₀ cfgs (dats m) 0 (V0 m) [hostOps1] c main_v2 = returned m c := by
  have e : Pipeline.afterTail₀ cfgs (dats m) 0 (V0 m) [hostOps1] c main_v2
      = shapeCast S1x2048x1024 ((dats m 0 c).arrAt 4 cfg0.N : Vec Ideal S2048x1024 .f32) shapeCasts_S2048x1024_S1x2048x1024 := by
    unfold Pipeline.afterTail₀
    rw [← Pipeline.withArrays_arr spec0 launch0.win.arr_inj c (V0 m c) (fun w => (dats m 0 c).arrAt w cfg0.N) 4]
    rfl
  rw [e, written]
  funext y
  obtain ⟨a, q, l, rfl⟩ : ∃ (a : Fin 1) (q : Fin 2048) (l : Fin 1024), y = ix3 a q l := ⟨_, _, _, ValueIdx.eq_ix3 y⟩
  obtain rfl : a = 0 := Subsingleton.elim _ _
  exact unflat_apply _ _ _

/-- The kernel's run: its result, and its arguments unchanged. -/
theorem run : θ_run defs (onTc (τ := τ) (main (F := Ideal))) ⟨m, fun _ => 0, ρ⟩ (fun r => ∀ c : Dev nD,
      r.2.mem ((c.tc : Thread nD τ).loc main_v2) = returned m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(((h.1.1 c).2 main_v2 (Pipeline.mem_restRefs_of main_v2 (by decide) (by decide))).trans (tail_eq m c)),
    h.2.1 c⟩) (θ_run_and (ends m ρ) (unchanged m ρ))

end Cert.KernelIdeal.Hand

end
-- ==== Proof.RefTerm.lean ====
/- The reference's result, written in layers instead of one composed term, and each layer read at an index. -/
module

public import proofs.«01_k».proof.Proof.Gen.ReferenceIdeal.Run
public import Idealize.ShloMosaic.Lib.Pipeline.ValueKit
public import Idealize.ShloMosaic.Lib.Pointwise
public import proofs.«01_k».proof.Proof.Spec

@[expose] public section

set_option maxRecDepth 16384

noncomputable section

namespace Cert.ReferenceIdeal.Hand

open Idealize.ShloMosaic Idealize.ShloMosaic.TcCoe
open Cert.ReferenceIdeal Cert.ReferenceIdeal.Gen Cert.ReferenceIdeal.Value

/-- The scores of every token for every expert. -/
def scores (x : FVec Ideal S1x2048x1024 .f32) (g : FVec Ideal S8x1024 .f32) : FVec Ideal S1x2048x8 .f32 :=
  Host.dotGeneral dot_S1x2048x1024_S8x1024_S1x2048x8_2_1_01_0_n_n none x g

/-- The exponentials of a token's scores less the greatest of them. -/
def shifted (s : FVec Ideal S1x2048x8 .f32) : FVec Ideal S1x2048x8 .f32 :=
  Host.exp (subf s (broadcastInDim S1x2048x8 ![0, 1, 2] bcast_S1x2048x1_S1x2048x8_0_1_2 (broadcastInDim S1x2048x1 ![0, 1] bcast_S1x2048_S1x2048x1_0_1
    (maximumf (broadcastInDim S1x2048 ![] bcast_S_S1x2048 (constant S_ .f32 0xFF800000#32))
      (Host.reduce FloatOps.maximumf s (constant S_ .f32 0xFF800000#32) reducesTo_S1x2048x8_S1x2048_d2 h_S_)))))

/-- The probabilities: the exponentials over their sum. -/
def normed (s : FVec Ideal S1x2048x8 .f32) : FVec Ideal S2048x8 .f32 :=
  shapeCast _ (Host.divf s (broadcastInDim S1x2048x8 ![0, 1, 2] bcast_S1x2048x1_S1x2048x8_0_1_2 (broadcastInDim S1x2048x1 ![0, 1] bcast_S1x2048_S1x2048x1_0_1
    (Host.reduceAdd s (constant S_ .f32 0x00000000#32) reducesTo_S1x2048x8_S1x2048_d2 h_S_)))) shapeCasts_S1x2048x8_S2048x8

/-- Which probabilities exceed the threshold, as words. -/
def mask (p : FVec Ideal S2048x8 .f32) : IVec S2048x8 32 :=
  extui 32 (cmpf .ogt p (broadcastInDim S2048x8 ![] bcast_S_S2048x8 (constant S_ .f32 0x3E99999A#32))) natLt_1_32

/-- How many entries of a token's row of the mask are the word `e`. -/
def count (k : IVec S2048x8 32) (e : BitVec 32) : FVec Ideal S2048 .f32 :=
  Host.reduceAdd (uitofp .f32 (cmpi .eq k (broadcastInDim S2048x8 ![] bcast_S_S2048x8 (constantI S_ 32 e))))
    (constant S_ .f32 0x00000000#32) reducesTo_S2048x8_S2048_d1 h_S_

/-- One expert's share of the hidden layer: its products, each token's row scaled. -/
def share (x : FVec Ideal S1x2048x1024 .f32) (w : FVec Ideal S1x2048x1024 .f32) (q : FVec Ideal S2048x1 .f32) (n : FVec Ideal S2048 .f32) :
    FVec Ideal S2048x2048 .f32 :=
  mulf (Host.dotGeneral dot_S2048x1024_S1024x2048_S2048x2048_1_0_0_1_n_n none (shapeCast _ x shapeCasts_S1x2048x1024_S2048x1024)
      (transpose S1024x2048 [1, 0] (shapeCast _ w shapeCasts_S1x2048x1024_S2048x1024) transposes_S2048x1024_S1024x2048_1_0))
    (broadcastInDim S2048x2048 ![0, 1] bcast_S2048x1_S2048x2048_0_1 (broadcastInDim S2048x1 ![0] bcast_S2048_S2048x1_0
      (mulf (shapeCast _ q shapeCasts_S2048x1_S2048) n)))

/-- The hidden layer: the eight shares added in order. -/
def hidden (x : FVec Ideal S1x2048x1024 .f32) (w : FVec Ideal S8x2048x1024 .f32) (p : FVec Ideal S2048x8 .f32) : FVec Ideal S2048x2048 .f32 :=
  addf (addf (addf (addf (addf (addf (addf (addf (broadcastInDim S2048x2048 ![] bcast_S_S2048x2048 (constant S_ .f32 0x00000000#32))
    (share x (extractStridedSlice S1x2048x1024 ![0, 0, 0] w slices_S8x2048x1024_S1x2048x1024_0_0_0) (extractStridedSlice S2048x1 ![0, 0] p slices_S2048x8_S2048x1_0_0) (count (mask p) 0#32)))
    (share x (extractStridedSlice S1x2048x1024 ![1, 0, 0] w slices_S8x2048x1024_S1x2048x1024_1_0_0) (extractStridedSlice S2048x1 ![0, 1] p slices_S2048x8_S2048x1_0_1) (count (mask p) 1#32)))
    (share x (extractStridedSlice S1x2048x1024 ![2, 0, 0] w slices_S8x2048x1024_S1x2048x1024_2_0_0) (extractStridedSlice S2048x1 ![0, 2] p slices_S2048x8_S2048x1_0_2) (count (mask p) 2#32)))
    (share x (extractStridedSlice S1x2048x1024 ![3, 0, 0] w slices_S8x2048x1024_S1x2048x1024_3_0_0) (extractStridedSlice S2048x1 ![0, 3] p slices_S2048x8_S2048x1_0_3) (count (mask p) 3#32)))
    (share x (extractStridedSlice S1x2048x1024 ![4, 0, 0] w slices_S8x2048x1024_S1x2048x1024_4_0_0) (extractStridedSlice S2048x1 ![0, 4] p slices_S2048x8_S2048x1_0_4) (count (mask p) 4#32)))
    (share x (extractStridedSlice S1x2048x1024 ![5, 0, 0] w slices_S8x2048x1024_S1x2048x1024_5_0_0) (extractStridedSlice S2048x1 ![0, 5] p slices_S2048x8_S2048x1_0_5) (count (mask p) 5#32)))
    (share x (extractStridedSlice S1x2048x1024 ![6, 0, 0] w slices_S8x2048x1024_S1x2048x1024_6_0_0) (extractStridedSlice S2048x1 ![0, 6] p slices_S2048x8_S2048x1_0_6) (count (mask p) 6#32)))
    (share x (extractStridedSlice S1x2048x1024 ![7, 0, 0] w slices_S8x2048x1024_S1x2048x1024_7_0_0) (extractStridedSlice S2048x1 ![0, 7] p slices_S2048x8_S2048x1_0_7) (count (mask p) 7#32))

/-- The result: the hidden layer times the output weights. -/
def result (h : FVec Ideal S2048x2048 .f32) (o : FVec Ideal S1024x2048 .f32) : FVec Ideal S1x2048x1024 .f32 :=
  Host.dotGeneral dot_S1x2048x2048_S2048x1024_S1x2048x1024_2_0_01_1_n_n none (shapeCast _ h shapeCasts_S2048x2048_S1x2048x2048)
    (transpose S2048x1024 [1, 0] o transposes_S1024x2048_S2048x1024_1_0)

theorem res_eq (m : (ℓ : Loc nD τ sig) → Buf (Elt Ideal) ℓ) (c : Dev nD) :
    res_main_v140 m c = result (hidden (m ((c.tc : Thread nD τ).loc main_arg0)) (m ((c.tc : Thread nD τ).loc main_arg2))
      (normed (shifted (scores (m ((c.tc : Thread nD τ).loc main_arg0)) (m ((c.tc : Thread nD τ).loc main_arg1)))))) (m ((c.tc : Thread nD τ).loc main_arg3)) := rfl

theorem scores_apply (x : FVec Ideal S1x2048x1024 .f32) (g : FVec Ideal S8x1024 .f32) (r : Fin 2048) (e : Fin 8) :
    scores x g (ix3 0 r e) = ∑ d, x (ix3 0 r d) * g (ix2 e d) := by
  pointwise [scores]

theorem shifted_apply (s : FVec Ideal S1x2048x8 .f32) (r : Fin 2048) (e : Fin 8) :
    shifted s (ix3 0 r e) = Ideal.exp (s (ix3 0 r e) - Finset.univ.fold max ⊥ fun e' => s (ix3 0 r e')) := by
  pointwise [shifted]
  rw [Cert.Moe.ofBits_bot, max_eq_right bot_le]

theorem normed_apply (s : FVec Ideal S1x2048x8 .f32) (r : Fin 2048) (e : Fin 8) :
    normed s (ix2 r e) = Ideal.div (s (ix3 0 r e)) (∑ e', s (ix3 0 r e')) := by
  pointwise [normed]

/-- The probabilities of a token are the softmax of its scores. -/
theorem probs_apply (x : FVec Ideal S1x2048x1024 .f32) (g : FVec Ideal S8x1024 .f32) (r : Fin 2048) (e : Fin 8) :
    normed (shifted (scores x g)) (ix2 r e) = Cert.Moe.prob (fun d => x (ix3 0 r d)) (fun e d => g (ix2 e d)) e := by
  rw [normed_apply]
  simp only [shifted_apply, scores_apply]
  rfl

/-- A row's entries of the mask equal to the word `n`, counted. -/
theorem count_apply (p : FVec Ideal S2048x8 .f32) (r : Fin 2048) (n : BitVec 32) :
    count (mask p) n (ix1 r) = ∑ e, Cert.Moe.hit (Cert.Moe.thr < p (ix2 r e)) n := by
  pointwise [count, mask]
  rfl

theorem share_apply (x : FVec Ideal S1x2048x1024 .f32) (w : FVec Ideal S1x2048x1024 .f32) (q : FVec Ideal S2048x1 .f32) (n : FVec Ideal S2048 .f32)
    (r : Fin 2048) (k : Fin 2048) :
    share x w q n (ix2 r k) = (∑ d, x (ix3 0 r d) * w (ix3 0 k d)) * (q (ix2 r 0) * n (ix1 r)) := by
  pointwise [share]

theorem result_apply (h : FVec Ideal S2048x2048 .f32) (o : FVec Ideal S1024x2048 .f32) (r : Fin 2048) (l : Fin 1024) :
    result h o (ix3 0 r l) = ∑ k, h (ix2 r k) * o (ix2 l k) := by
  pointwise [result]

/-- The hidden layer at an index: only the first two experts contribute, as a mask's entry is never a word from 2 on. -/
theorem hidden_apply (x : FVec Ideal S1x2048x1024 .f32) (w : FVec Ideal S8x2048x1024 .f32) (p : FVec Ideal S2048x8 .f32) (r k : Fin 2048) :
    hidden x w p (ix2 r k)
      = (∑ d, x (ix3 0 r d) * w (ix3 0 k d)) * (p (ix2 r 0) * Cert.Moe.below fun e => p (ix2 r e))
        + (∑ d, x (ix3 0 r d) * w (ix3 1 k d)) * (p (ix2 r 1) * Cert.Moe.above fun e => p (ix2 r e)) := by
  pointwise [hidden]
  simp only [share_apply, count_apply]
  rw [Cert.Moe.sum_hit_zero, Cert.Moe.sum_hit_one]
  rw [Cert.Moe.sum_hit_other _ 2#32 (by decide) (by decide), Cert.Moe.sum_hit_other _ 3#32 (by decide) (by decide),
    Cert.Moe.sum_hit_other _ 4#32 (by decide) (by decide), Cert.Moe.sum_hit_other _ 5#32 (by decide) (by decide),
    Cert.Moe.sum_hit_other _ 6#32 (by decide) (by decide), Cert.Moe.sum_hit_other _ 7#32 (by decide) (by decide)]
  simp only [mul_zero, add_zero, zero_add]
  pointwise

end Cert.ReferenceIdeal.Hand

end
-- ==== Proof.Finite.lean ====
/- What the precondition says: every entry of the tokens, of the gate's weights, of the first two experts' weights and of
   the output weights is a real number. -/
module

public import proofs.«01_k».proof.Pre_finite_inputs
public import Idealize.ShloMosaic.Lib.ReduceAll
public import Idealize.ShloMosaic.Lib.ValueIdx
public import Idealize.ShloMosaic.Lib.Pipeline.ValueKit
public import Idealize.ShloMosaic.Lib.Pointwise

@[expose] public section

set_option maxRecDepth 16384

noncomputable section

namespace Cert.Finite

open Idealize.ShloMosaic Cert.Pre_finite_inputs

/-- The shape facts the precondition states. -/
theorem facts : Cert.Pre_finite_inputs.Facts where
  bcast_S_S1x2048x1024 := by decide
  reducesTo_S1x2048x1024_S_d0_1_2 := by decide
  h_S_ := by decide
  bcast_S_S8x1024 := by decide
  reducesTo_S8x1024_S_d0_1 := by decide
  slices_S8x2048x1024_S2x2048x1024_0_0_0 := by decide
  bcast_S_S2x2048x1024 := by decide
  reducesTo_S2x2048x1024_S_d0_1_2 := by decide
  bcast_S_S1024x2048 := by decide
  reducesTo_S1024x2048_S_d0_1 := by decide

/-- An extended real below infinity in absolute value is a real number. -/
theorem real_of_abs_lt (v : EReal) (h : max v (-v) < ⊤) : ∃ r : ℝ, v = r := by
  induction v using EReal.rec with
  | bot => simp at h
  | coe r => exact ⟨r, rfl⟩
  | top => simp at h

/-- The same, of the comparison's word. -/
theorem real_of_word (v : Ideal .f32)
    (h : FloatOps.cmpf .olt (FloatOps.hostAbsf v) (FloatOps.ofBits (F := Ideal) .f32 0x7F800000#32) = 1#1) : ∃ r : ℝ, (v : EReal) = r := by
  have top : Ideal.ofBits .f32 0x7F800000#32 = ⊤ := by simp [Ideal.ofBits, Ideal.ieee]
  change Ideal.cmp .olt (max (v : EReal) (-(v : EReal))) (Ideal.ofBits .f32 0x7F800000#32) = 1#1 at h
  rw [top, Ideal.cmp_olt] at h
  refine real_of_abs_lt _ ?_
  by_contra hn
  rw [decide_eq_false hn] at h
  exact absurd h (by decide)

/-- A conjunction over a whole array of such comparisons. -/
theorem real_of_all {s : Shape} {axes : List (Fin s.rank)} (v : FVec Ideal s .f32) (hb : S_.BroadcastsInDim s (![] : Fin 0 → Fin s.rank))
    (hr : s.ReducesTo axes S_) (hu : 0 < S_.numel) (j : S_.Idx)
    (h : Host.reduce IntOp.andi (cmpf .olt (Host.absf v) (broadcastInDim s ![] hb (constant S_ .f32 0x7F800000#32))) (constantI S_ 1 1#1) hr hu j = 1#1)
    (i : s.Idx) : ∃ r : ℝ, (v i : EReal) = r :=
  have : Subsingleton S_.Idx := ⟨fun a b => funext fun k => k.elim0⟩
  real_of_word _ (Host.reduce_andi_all _ _ hr hu j h i)

variable [Cert.Pre_finite_inputs.Facts]

/-- What the precondition gives. -/
theorem reals (x : FVec Ideal S1x2048x1024 .f32) (g : FVec Ideal S8x1024 .f32) (e : FVec Ideal S8x2048x1024 .f32) (o : FVec Ideal S1024x2048 .f32)
    (h : Cert.Pre_finite_inputs.fn x g e o = fun _ => 1#1) :
    (∀ i, ∃ r : ℝ, (x i : EReal) = r) ∧ (∀ i, ∃ r : ℝ, (g i : EReal) = r)
      ∧ (∀ (a : Fin 2) (k : Fin 2048) (d : Fin 1024), ∃ r : ℝ, (e (ix3 ⟨a.val, by omega⟩ k d) : EReal) = r) ∧ (∀ i, ∃ r : ℝ, (o i : EReal) = r) := by
  have h := congrFun h (fun k => k.elim0 : S_.Idx)
  obtain ⟨h, ho⟩ := IntOp.andi_eq_one.1 h
  obtain ⟨h, he⟩ := IntOp.andi_eq_one.1 h
  obtain ⟨hx, hg⟩ := IntOp.andi_eq_one.1 h
  refine ⟨real_of_all x _ _ _ _ hx, real_of_all g _ _ _ _ hg, fun a k d => ?_, real_of_all o _ _ _ _ ho⟩
  obtain ⟨r, hr⟩ := real_of_all _ _ _ _ _ he (ix3 a k d)
  refine ⟨r, Eq.trans ?_ hr⟩
  pointwise

end Cert.Finite

end
-- ==== Proof.Agree.lean ====
/- The kernel's result and the reference's, entry by entry: the kernel multiplies the two weight matrices first and applies
   a token last, the reference applies the token first. Over real numbers the two orders give the same sums. -/
module

public import proofs.«01_k».proof.Proof.Result
public import proofs.«01_k».proof.Proof.RefTerm
public import proofs.«01_k».proof.Proof.Finite

@[expose] public section

set_option maxRecDepth 16384

noncomputable section

namespace Cert.Agree

open Idealize.ShloMosaic Idealize.ShloMosaic.TcCoe
open Cert.ReferenceIdeal.Hand

variable (x : Vec Ideal ReferenceIdeal.S1x2048x1024 .f32) (g : Vec Ideal ReferenceIdeal.S8x1024 .f32)
  (w : Vec Ideal ReferenceIdeal.S8x2048x1024 .f32) (o : Vec Ideal ReferenceIdeal.S1024x2048 .f32)

/-- A token's shares of the experts. -/
def shares (q : Fin 2048) : Fin 8 → EReal := Moe.prob (fun d => x (ix3 0 q d)) fun e d => g (ix2 e d)

/-- An entry of the reference's result. -/
theorem reference_entry (q : Fin 2048) (l : Fin 1024) :
    result (hidden x w (normed (shifted (scores x g)))) o (ix3 0 q l)
      = ∑ k : Fin 2048, ((∑ d : Fin 1024, x (ix3 0 q d) * w (ix3 0 k d)) * (shares x g q 0 * Moe.below (shares x g q))
          + (∑ d : Fin 1024, x (ix3 0 q d) * w (ix3 1 k d)) * (shares x g q 1 * Moe.above (shares x g q))) * o (ix2 l k) := by
  have hp : ∀ e, normed (shifted (scores x g)) (ix2 q e) = shares x g q e := fun e => probs_apply x g q e
  refine (result_apply _ o q l).trans (Finset.sum_congr rfl fun k _ => ?_)
  rw [hidden_apply]
  simp only [hp]

/-- The two orders of multiplication agree where the arguments are real numbers. -/
theorem orders (hx : ∀ i, ∃ r : ℝ, (x i : EReal) = r) (hg : ∀ i, ∃ r : ℝ, (g i : EReal) = r)
    (hw : ∀ (a : Fin 2) (k : Fin 2048) (d : Fin 1024), ∃ r : ℝ, (w (ix3 ⟨a.val, by omega⟩ k d) : EReal) = r)
    (ho : ∀ i, ∃ r : ℝ, (o i : EReal) = r) (q : Fin 2048) (l : Fin 1024) :
    ((∑ d : Fin 1024, (x (ix3 0 q d) * (shares x g q 0 * Moe.below (shares x g q))) * ∑ k : Fin 2048, o (ix2 l k) * w (ix3 0 k d))
      + ∑ d : Fin 1024, (x (ix3 0 q d) * (shares x g q 1 * Moe.above (shares x g q))) * ∑ k : Fin 2048, o (ix2 l k) * w (ix3 1 k d) : EReal)
      = ∑ k : Fin 2048, ((∑ d : Fin 1024, x (ix3 0 q d) * w (ix3 0 k d)) * (shares x g q 0 * Moe.below (shares x g q))
          + (∑ d : Fin 1024, x (ix3 0 q d) * w (ix3 1 k d)) * (shares x g q 1 * Moe.above (shares x g q))) * o (ix2 l k) := by
  choose x' hx using hx
  choose g' hg using hg
  choose w' hw using hw
  choose o' ho using ho
  have hp : ∀ e, ∃ p : ℝ, shares x g q e = p := fun e => by
    obtain ⟨p, h⟩ := Moe.prob_real (fun d => x' (ix3 0 q d)) (fun e d => g' (ix2 e d)) e
    refine ⟨p, Eq.trans ?_ h⟩
    unfold shares
    simp only [hx, hg]
  obtain ⟨p₀, hp₀⟩ := hp 0
  obtain ⟨p₁, hp₁⟩ := hp 1
  obtain ⟨a, ha, hb⟩ := Moe.counts (shares x g q)
  have hw0 : ∀ k d, (w (ix3 0 k d) : EReal) = (w' 0 k d : ℝ) := hw 0
  have hw1 : ∀ k d, (w (ix3 1 k d) : EReal) = (w' 1 k d : ℝ) := hw 1
  rw [hp₀, hp₁, ha, hb, ← EReal.coe_mul, ← EReal.coe_mul]
  simp only [hx, hw0, hw1, ho]
  exact Moe.reorder (fun d => x' (ix3 0 q d)) (w' 0) (w' 1) (fun k => o' (ix2 l k)) (p₀ * (8 - a)) (p₁ * a)

/-- The whole results. -/
theorem results (m : (ℓ : Loc KernelIdeal.nD KernelIdeal.τ KernelIdeal.sig) → Buf (Elt Ideal) ℓ) (c : Dev KernelIdeal.nD)
    (hx : ∀ i, ∃ r : ℝ, (KernelIdeal.Hand.X m c i : EReal) = r) (hg : ∀ i, ∃ r : ℝ, (KernelIdeal.Hand.GW m c i : EReal) = r)
    (hw : ∀ (a : Fin 2) (k : Fin 2048) (d : Fin 1024), ∃ r : ℝ, (KernelIdeal.Hand.EW m c (ix3 ⟨a.val, by omega⟩ k d) : EReal) = r)
    (ho : ∀ i, ∃ r : ℝ, (KernelIdeal.Hand.OW m c i : EReal) = r) :
    result (hidden (KernelIdeal.Hand.X m c) (KernelIdeal.Hand.EW m c)
        (normed (shifted (scores (KernelIdeal.Hand.X m c) (KernelIdeal.Hand.GW m c))))) (KernelIdeal.Hand.OW m c)
      = KernelIdeal.Hand.returned m c := by
  funext y
  obtain ⟨z, q, l, rfl⟩ : ∃ (z : Fin 1) (q : Fin 2048) (l : Fin 1024), y = ix3 z q l := ⟨_, _, _, ValueIdx.eq_ix3 y⟩
  obtain rfl : z = 0 := Subsingleton.elim _ _
  exact (reference_entry _ _ _ _ q l).trans (orders _ _ _ _ hx hg hw ho q l).symm

end Cert.Agree

end
-- ==== Proof.lean ====
module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Keeps
public import proofs.«01_k».proof.Proof.Spec
public import proofs.«01_k».proof.Proof.Steps
public import proofs.«01_k».proof.Proof.Pay
public import proofs.«01_k».proof.Proof.Fill
public import proofs.«01_k».proof.Proof.Body
public import proofs.«01_k».proof.Proof.Result
public import proofs.«01_k».proof.Proof.RefTerm
public import proofs.«01_k».proof.Proof.Finite
public import proofs.«01_k».proof.Proof.Agree
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The reference declares no counter, so its run ends with every counter at zero. -/
theorem reference_frame (m : (ℓ : Loc ReferenceIdeal.nD ReferenceIdeal.τ ReferenceIdeal.sig) → Buf (Elt Ideal) ℓ)
    (ρ : Dev ReferenceIdeal.nD → PrngReg) :
    θ_run (ReferenceIdeal.defs (F := Ideal)) (onTc (τ := ReferenceIdeal.τ) (ReferenceIdeal.main (F := Ideal))) ⟨m, fun _ => 0, ρ⟩
      (fun r => (∀ c : Dev ReferenceIdeal.nD,
        r.2.mem ((c.tc : Thread ReferenceIdeal.nD ReferenceIdeal.τ).loc ReferenceIdeal.main_arg0) = m ((c.tc : Thread ReferenceIdeal.nD ReferenceIdeal.τ).loc ReferenceIdeal.main_arg0)
        ∧ r.2.mem ((c.tc : Thread ReferenceIdeal.nD ReferenceIdeal.τ).loc ReferenceIdeal.main_arg1) = m ((c.tc : Thread ReferenceIdeal.nD ReferenceIdeal.τ).loc ReferenceIdeal.main_arg1)
        ∧ r.2.mem ((c.tc : Thread ReferenceIdeal.nD ReferenceIdeal.τ).loc ReferenceIdeal.main_arg2) = m ((c.tc : Thread ReferenceIdeal.nD ReferenceIdeal.τ).loc ReferenceIdeal.main_arg2)
        ∧ r.2.mem ((c.tc : Thread ReferenceIdeal.nD ReferenceIdeal.τ).loc ReferenceIdeal.main_arg3) = m ((c.tc : Thread ReferenceIdeal.nD ReferenceIdeal.τ).loc ReferenceIdeal.main_arg3))
        ∧ r.2.sem = fun _ => 0) :=
  (θ_run _ _ _).mono (fun r h => ⟨fun c => (h c).2, sem_eq_zero_of_no_sems rfl r.2⟩) (ReferenceIdeal.Value.run m ρ)

/-- Both runs return the same array where the arguments are real numbers. -/
theorem same : algebraic_KernelIdeal_ReferenceIdeal_pre_finite_inputs (hKernelIdeal := KernelIdeal.Gen.facts)
    (hReferenceIdeal := ReferenceIdeal.Gen.facts) (hPre_finite_inputs := Finite.facts) := by
  intro m g m' g' hpre hagree
  refine ⟨fun c => KernelIdeal.Hand.returned m c, KernelIdeal.Hand.run m g,
    (θ_run _ _ _).mono (fun r h c => ⟨(h c).1.trans ?_, (h c).2⟩) (ReferenceIdeal.Value.run m' g')⟩
  obtain ⟨hx, hg, hw, ho⟩ := @Finite.reals Finite.facts _ _ _ _ (hpre c)
  obtain ⟨h0, h1, h2, h3⟩ := hagree c
  rw [ReferenceIdeal.Hand.res_eq, h0, h1, h2, h3]
  exact Agree.results m c hx hg hw ho

theorem claim : Cert.Claim :=
  ⟨Cert.Kernel.Gen.facts, Cert.KernelIdeal.Gen.facts, Cert.ReferenceIdeal.Gen.facts, Finite.facts,
    fun m ρ _ => Cert.Kernel.Hand.unchanged m ρ,
    fun m ρ _ => KernelIdeal.Hand.unchanged m ρ,
    fun m ρ _ => KernelIdeal.Hand.unchanged m ρ,
    fun m ρ _ => reference_frame m ρ,
    fun m ρ _ => reference_frame m ρ,
    trivial,
    same⟩

end Cert.Proof

end
